-- ==== Defs.lean ====
def Pre_Kernel [hPre_task_ids_in_range : Cert.Pre_task_ids_in_range.Facts] (m : (ℓ : Loc Cert.Kernel.nD Cert.Kernel.τ Cert.Kernel.sig) → Buf (Elt Bits) ℓ) : Prop :=
  ∀ c : Dev Cert.Kernel.nD,
    (Cert.Pre_task_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_task_ids_in_range : Cert.Pre_task_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_task_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_task_ids_in_range : Cert.Pre_task_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_task_ids_in_range : Cert.Pre_task_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_task_ids_in_range : Cert.Pre_task_ids_in_range.Facts) (hPre_finite_and_in_range : Cert.Pre_finite_and_in_range.Facts),
    quiescent_Kernel (hKernel := hKernel) (hPre_task_ids_in_range := hPre_task_ids_in_range)
    ∧ quiescent_KernelIdeal (hKernelIdeal := hKernelIdeal) (hPre_task_ids_in_range := hPre_task_ids_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S4x2048x1024 : Shape := ⟨3, ![4, 2048, 1024]⟩
abbrev S4 : Shape := ⟨1, ![4]⟩
abbrev S16x8 : Shape := ⟨2, ![16, 8]⟩
abbrev S1024x1024 : Shape := ⟨2, ![1024, 1024]⟩
abbrev S1024 : Shape := ⟨1, ![1024]⟩
abbrev S1x8x1024x16 : Shape := ⟨4, ![1, 8, 1024, 16]⟩
abbrev S1x8x16x1024 : Shape := ⟨4, ![1, 8, 16, 1024]⟩
abbrev S_ : Shape := ⟨0, ![]⟩

class Facts : Prop where
  bcast_S_S4 : S_.BroadcastsInDim S4 (![] : Fin 0 → Fin S4.rank)
  bcast_S_S4x2048x1024 : S_.BroadcastsInDim S4x2048x1024 (![] : Fin 0 → Fin S4x2048x1024.rank)
  bcast_S_S1x8x1024x16 : S_.BroadcastsInDim S1x8x1024x16 (![] : Fin 0 → Fin S1x8x1024x16.rank)
  bcast_S_S1x8x16x1024 : S_.BroadcastsInDim S1x8x16x1024 (![] : Fin 0 → Fin S1x8x16x1024.rank)
  reducesTo_S4_S_d0 : S4.ReducesTo [0] S_
  h_S_ : 0 < S_.numel
  reducesTo_S4x2048x1024_S_d0_1_2 : S4x2048x1024.ReducesTo [0, 1, 2] S_
  reducesTo_S1x8x1024x16_S_d0_1_2_3 : S1x8x1024x16.ReducesTo [0, 1, 2, 3] S_
  reducesTo_S1x8x16x1024_S_d0_1_2_3 : S1x8x16x1024.ReducesTo [0, 1, 2, 3] S_

variable [Facts]

def fn_part1 {F : FTy → Type} [FloatOps F] (main_v10 : IVec S1x8x1024x16 1) (main_v13 : IVec S1x8x16x1024 1) (main_v16 : IVec S_ 1) : IVec S_ 1 :=
  let main_c_5 : IVec S_ 1 := constantI S_ 1 1#1
  let main_v17 : IVec S_ 1 := (fun x v => Host.reduce IntOp.andi x v reducesTo_S1x8x1024x16_S_d0_1_2_3 h_S_) main_v10 main_c_5
  let main_v18 : IVec S_ 1 := andi main_v16 main_v17
  let main_c_6 : IVec S_ 1 := constantI S_ 1 1#1
  let main_v19 : IVec S_ 1 := (fun x v => Host.reduce IntOp.andi x v reducesTo_S1x8x16x1024_S_d0_1_2_3 h_S_) main_v13 main_c_6
  let main_v20 : IVec S_ 1 := andi main_v18 main_v19
  main_v20

def fn {F : FTy → Type} [FloatOps F] (main_arg0 : FVec F S4x2048x1024 .f32) (main_arg1 : IVec S4 32) (main_arg2 : FVec F S16x8 .f32) (main_arg3 : FVec F S1024x1024 .f32) (main_arg4 : FVec F S1024 .f32) (main_arg5 : FVec F S1x8x1024x16 .f32) (main_arg6 : FVec F S1x8x16x1024 .f32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 16#32
  let main_v2 : IVec S4 32 := broadcastInDim S4 ![] bcast_S_S4 main_c_0
  let main_v3 : IVec S4 1 := cmpi .slt main_arg1 main_v2
  let main_v4 : IVec S4 1 := andi main_v1 main_v3
  let main_v5 : FVec F S4x2048x1024 .f32 := Host.absf main_arg0
  let main_cst : FVec F S_ .f32 := constant S_ .f32 0x7F800000#32
  let main_v6 : FVec F S4x2048x1024 .f32 := broadcastInDim S4x2048x1024 ![] bcast_S_S4x2048x1024 main_cst
  let main_v7 : IVec S4x2048x1024 1 := cmpf .olt main_v5 main_v6
  let main_v8 : FVec F S1x8x1024x16 .f32 := Host.absf main_arg5
  let main_cst_1 : FVec F S_ .f32 := constant S_ .f32 0x7F800000#32
  let main_v9 : FVec F S1x8x1024x16 .f32 := broadcastInDim S1x8x1024x16 ![] bcast_S_S1x8x1024x16 main_cst_1
  let main_v10 : IVec S1x8x1024x16 1 := cmpf .olt main_v8 main_v9
  let main_v11 : FVec F S1x8x16x1024 .f32 := Host.absf main_arg6
  let main_cst_2 : FVec F S_ .f32 := constant S_ .f32 0x7F800000#32
  let main_v12 : FVec F S1x8x16x1024 .f32 := broadcastInDim S1x8x16x1024 ![] bcast_S_S1x8x16x1024 main_cst_2
  let main_v13 : IVec S1x8x16x1024 1 := cmpf .olt main_v11 main_v12
  let main_c_3 : IVec S_ 1 := constantI S_ 1 1#1
  let main_v14 : IVec S_ 1 := (fun x v => Host.reduce IntOp.andi x v reducesTo_S4_S_d0 h_S_) main_v4 main_c_3
  let main_c_4 : IVec S_ 1 := constantI S_ 1 1#1
  let main_v15 : IVec S_ 1 := (fun x v => Host.reduce IntOp.andi x v reducesTo_S4x2048x1024_S_d0_1_2 h_S_) main_v7 main_c_4
  let main_v16 : IVec S_ 1 := andi main_v14 main_v15
  fn_part1 (F := F) main_v10 main_v13 main_v16
-- ==== Pre_task_ids_in_range.lean ====
abbrev S4x2048x1024 : Shape := ⟨3, ![4, 2048, 1024]⟩
abbrev S4 : Shape := ⟨1, ![4]⟩
abbrev S16x8 : Shape := ⟨2, ![16, 8]⟩
abbrev S1024x1024 : Shape := ⟨2, ![1024, 1024]⟩
abbrev S1024 : Shape := ⟨1, ![1024]⟩
abbrev S1x8x1024x16 : Shape := ⟨4, ![1, 8, 1024, 16]⟩
abbrev S1x8x16x1024 : Shape := ⟨4, ![1, 8, 16, 1024]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x2048x1024 .f32) (main_arg1 : IVec S4 32) (main_arg2 : FVec F S16x8 .f32) (main_arg3 : FVec F S1024x1024 .f32) (main_arg4 : FVec F S1024 .f32) (main_arg5 : FVec F S1x8x1024x16 .f32) (main_arg6 : FVec F S1x8x16x1024 .f32) : IVec S4 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 16#32
  let main_v2 : IVec S4 32 := broadcastInDim S4 ![] bcast_S_S4 main_c_0
  let main_v3 : IVec S4 1 := cmpi .slt main_arg1 main_v2
  let main_v4 : IVec S4 1 := andi main_v1 main_v3
  main_v4
-- ==== Kernel.lean ====
abbrev S4x2048x1024 : Shape := ⟨3, ![4, 2048, 1024]⟩
abbrev S4 : Shape := ⟨1, ![4]⟩
abbrev S16x8 : Shape := ⟨2, ![16, 8]⟩
abbrev S1024x1024 : Shape := ⟨2, ![1024, 1024]⟩
abbrev S1024 : Shape := ⟨1, ![1024]⟩
abbrev S1x8x1024x16 : Shape := ⟨4, ![1, 8, 1024, 16]⟩
abbrev S1x8x16x1024 : Shape := ⟨4, ![1, 8, 16, 1024]⟩
abbrev S1x1024 : Shape := ⟨2, ![1, 1024]⟩
abbrev S8x1024x16 : Shape := ⟨3, ![8, 1024, 16]⟩
abbrev S8x16x1024 : Shape := ⟨3, ![8, 16, 1024]⟩
abbrev S2x2048x1024 : Shape := ⟨3, ![2, 2048, 1024]⟩
abbrev S2x2x2 : Shape := ⟨3, ![2, 2, 2]⟩
abbrev S1x1x1 : Shape := ⟨3, ![1, 1, 1]⟩
abbrev S_ : Shape := ⟨0, ![]⟩
abbrev S1x512x1024 : Shape := ⟨3, ![1, 512, 1024]⟩
abbrev S512x1024 : Shape := ⟨2, ![512, 1024]⟩
abbrev S1 : Shape := ⟨1, ![1]⟩
abbrev S1x1 : Shape := ⟨2, ![1, 1]⟩
abbrev S1x1024x16 : Shape := ⟨3, ![1, 1024, 16]⟩
abbrev S1024x16 : Shape := ⟨2, ![1024, 16]⟩
abbrev S1x16x1024 : Shape := ⟨3, ![1, 16, 1024]⟩
abbrev S16x1024 : Shape := ⟨2, ![16, 1024]⟩
abbrev S1x1024x1024 : Shape := ⟨3, ![1, 1024, 1024]⟩

abbrev nBuf : Space → Nat
  | .hbm => 11
  | .vmem => 7
  | .smem => 2
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S16x8, .f32⟩
  | .hbm, ⟨3, _⟩ => ⟨S1024x1024, .f32⟩
  | .hbm, ⟨4, _⟩ => ⟨S1024, .f32⟩
  | .hbm, ⟨5, _⟩ => ⟨S1x8x1024x16, .f32⟩
  | .hbm, ⟨6, _⟩ => ⟨S1x8x16x1024, .f32⟩
  | .hbm, ⟨7, _⟩ => ⟨S1x1024, .f32⟩
  | .hbm, ⟨8, _⟩ => ⟨S8x1024x16, .f32⟩
  | .hbm, ⟨9, _⟩ => ⟨S8x16x1024, .f32⟩
  | .hbm, ⟨10, _⟩ => ⟨S4x2048x1024, .f32⟩
  | .local _ .vmem, ⟨0, _⟩ => ⟨S1024x1024, .f32⟩
  | .local _ .vmem, ⟨1, _⟩ => ⟨S1x1024, .f32⟩
  | .local _ .vmem, ⟨2, _⟩ => ⟨S8x1024x16, .f32⟩
  | .local _ .vmem, ⟨3, _⟩ => ⟨S8x16x1024, .f32⟩
  | .local _ .vmem, ⟨4, _⟩ => ⟨S2x2048x1024, .f32⟩
  | .local _ .vmem, ⟨5, _⟩ => ⟨S2x2048x1024, .f32⟩
  | .local _ .vmem, ⟨6, _⟩ => ⟨S1024x1024, .f32⟩
  | .local _ .smem, ⟨0, _⟩ => ⟨S4, .i32⟩
  | .local _ .smem, ⟨1, _⟩ => ⟨S16x8, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (v48 : BitVec 32) : Fin 2 → Nat :=
  let v49 : Index := Scalar.indexCast v48
  let c0_67 : Index := 0#32
  ![v49.toNat, 0]

def k0_off2 (v48 : BitVec 32) : Fin 2 → Nat :=
  let v55 : Index := Scalar.indexCast v48
  let c1 : Index := 1#32
  ![v55.toNat, 1]
def k0_off3 (v48 : BitVec 32) : Fin 2 → Nat :=
  let v61 : Index := Scalar.indexCast v48
  let c2 : Index := 2#32
  ![v61.toNat, 2]
def k0_off4 (v48 : BitVec 32) : Fin 2 → Nat :=
  let v67 : Index := Scalar.indexCast v48
  let c3 : Index := 3#32
  ![v67.toNat, 3]
def k0_off5 (v48 : BitVec 32) : Fin 2 → Nat :=
  let v73 : Index := Scalar.indexCast v48
  let c4 : Index := 4#32
  ![v73.toNat, 4]
def k0_off6 (v48 : BitVec 32) : Fin 2 → Nat :=
  let v79 : Index := Scalar.indexCast v48
  let c5 : Index := 5#32
  ![v79.toNat, 5]
def k0_off7 (v48 : BitVec 32) : Fin 2 → Nat :=
  let v85 : Index := Scalar.indexCast v48
  let c6 : Index := 6#32
  ![v85.toNat, 6]
def k0_off8 (v48 : BitVec 32) : Fin 2 → Nat :=
  let v91 : Index := Scalar.indexCast v48
  let c7 : Index := 7#32
  ![v91.toNat, 7]

def k0_chk1 (v48 : BitVec 32) : Prop :=
  (∀ a, (k0_off1 v48) a + S1x1.size a ≤ S16x8.size a) ∧
  (∀ a, (k0_off2 v48) a + S1x1.size a ≤ S16x8.size a) ∧
  (∀ a, (k0_off3 v48) a + S1x1.size a ≤ S16x8.size a) ∧
  (∀ a, (k0_off4 v48) a + S1x1.size a ≤ S16x8.size a) ∧
  (∀ a, (k0_off5 v48) a + S1x1.size a ≤ S16x8.size a) ∧
  (∀ a, (k0_off6 v48) a + S1x1.size a ≤ S16x8.size a) ∧
  (∀ a, (k0_off7 v48) a + S1x1.size a ≤ S16x8.size a) ∧
  (∀ a, (k0_off8 v48) a + S1x1.size a ≤ S16x8.size a)
theorem k0_off1_inb : ∀ (v48 : BitVec 32) (k0_hw1 : k0_chk1 v48), ∀ a, (k0_off1 v48) a + S1x1.size a ≤ S16x8.size a := fun v48 k0_hw1 => k0_hw1.1
theorem k0_off2_inb : ∀ (v48 : BitVec 32) (k0_hw1 : k0_chk1 v48), ∀ a, (k0_off2 v48) a + S1x1.size a ≤ S16x8.size a := fun v48 k0_hw1 => k0_hw1.2.1
theorem k0_off3_inb : ∀ (v48 : BitVec 32) (k0_hw1 : k0_chk1 v48), ∀ a, (k0_off3 v48) a + S1x1.size a ≤ S16x8.size a := fun v48 k0_hw1 => k0_hw1.2.2.1
theorem k0_off4_inb : ∀ (v48 : BitVec 32) (k0_hw1 : k0_chk1 v48), ∀ a, (k0_off4 v48) a + S1x1.size a ≤ S16x8.size a := fun v48 k0_hw1 => k0_hw1.2.2.2.1
theorem k0_off5_inb : ∀ (v48 : BitVec 32) (k0_hw1 : k0_chk1 v48), ∀ a, (k0_off5 v48) a + S1x1.size a ≤ S16x8.size a := fun v48 k0_hw1 => k0_hw1.2.2.2.2.1
theorem k0_off6_inb : ∀ (v48 : BitVec 32) (k0_hw1 : k0_chk1 v48), ∀ a, (k0_off6 v48) a + S1x1.size a ≤ S16x8.size a := fun v48 k0_hw1 => k0_hw1.2.2.2.2.2.1
theorem k0_off7_inb : ∀ (v48 : BitVec 32) (k0_hw1 : k0_chk1 v48), ∀ a, (k0_off7 v48) a + S1x1.size a ≤ S16x8.size a := fun v48 k0_hw1 => k0_hw1.2.2.2.2.2.2.1
theorem k0_off8_inb : ∀ (v48 : BitVec 32) (k0_hw1 : k0_chk1 v48), ∀ a, (k0_off8 v48) a + S1x1.size a ≤ S16x8.size a := fun v48 k0_hw1 => k0_hw1.2.2.2.2.2.2.2

def k0_off9 (v294 : BitVec 32) : Fin 2 → Nat :=
  let v295 : Index := Scalar.indexCast v294
  let c0_276 : Index := 0#32
  ![v295.toNat, 0]

def k0_off10 (v294 : BitVec 32) : Fin 2 → Nat :=
  let v301 : Index := Scalar.indexCast v294
  let c1_280 : Index := 1#32
  ![v301.toNat, 1]
def k0_off11 (v294 : BitVec 32) : Fin 2 → Nat :=
  let v307 : Index := Scalar.indexCast v294
  let c2_284 : Index := 2#32
  ![v307.toNat, 2]
def k0_off12 (v294 : BitVec 32) : Fin 2 → Nat :=
  let v313 : Index := Scalar.indexCast v294
  let c3_288 : Index := 3#32
  ![v313.toNat, 3]
def k0_off13 (v294 : BitVec 32) : Fin 2 → Nat :=
  let v319 : Index := Scalar.indexCast v294
  let c4_292 : Index := 4#32
  ![v319.toNat, 4]
def k0_off14 (v294 : BitVec 32) : Fin 2 → Nat :=
  let v325 : Index := Scalar.indexCast v294
  let c5_296 : Index := 5#32
  ![v325.toNat, 5]
def k0_off15 (v294 : BitVec 32) : Fin 2 → Nat :=
  let v331 : Index := Scalar.indexCast v294
  let c6_300 : Index := 6#32
  ![v331.toNat, 6]
def k0_off16 (v294 : BitVec 32) : Fin 2 → Nat :=
  let v337 : Index := Scalar.indexCast v294
  let c7_304 : Index := 7#32
  ![v337.toNat, 7]

def k0_chk2 (v294 : BitVec 32) : Prop :=
  (∀ a, (k0_off9 v294) a + S1x1.size a ≤ S16x8.size a) ∧
  (∀ a, (k0_off10 v294) a + S1x1.size a ≤ S16x8.size a) ∧
  (∀ a, (k0_off11 v294) a + S1x1.size a ≤ S16x8.size a) ∧
  (∀ a, (k0_off12 v294) a + S1x1.size a ≤ S16x8.size a) ∧
  (∀ a, (k0_off13 v294) a + S1x1.size a ≤ S16x8.size a) ∧
  (∀ a, (k0_off14 v294) a + S1x1.size a ≤ S16x8.size a) ∧
  (∀ a, (k0_off15 v294) a + S1x1.size a ≤ S16x8.size a) ∧
  (∀ a, (k0_off16 v294) a + S1x1.size a ≤ S16x8.size a)
theorem k0_off9_inb : ∀ (v294 : BitVec 32) (k0_hw2 : k0_chk2 v294), ∀ a, (k0_off9 v294) a + S1x1.size a ≤ S16x8.size a := fun v294 k0_hw2 => k0_hw2.1
theorem k0_off10_inb : ∀ (v294 : BitVec 32) (k0_hw2 : k0_chk2 v294), ∀ a, (k0_off10 v294) a + S1x1.size a ≤ S16x8.size a := fun v294 k0_hw2 => k0_hw2.2.1
theorem k0_off11_inb : ∀ (v294 : BitVec 32) (k0_hw2 : k0_chk2 v294), ∀ a, (k0_off11 v294) a + S1x1.size a ≤ S16x8.size a := fun v294 k0_hw2 => k0_hw2.2.2.1
theorem k0_off12_inb : ∀ (v294 : BitVec 32) (k0_hw2 : k0_chk2 v294), ∀ a, (k0_off12 v294) a + S1x1.size a ≤ S16x8.size a := fun v294 k0_hw2 => k0_hw2.2.2.2.1
theorem k0_off13_inb : ∀ (v294 : BitVec 32) (k0_hw2 : k0_chk2 v294), ∀ a, (k0_off13 v294) a + S1x1.size a ≤ S16x8.size a := fun v294 k0_hw2 => k0_hw2.2.2.2.2.1
theorem k0_off14_inb : ∀ (v294 : BitVec 32) (k0_hw2 : k0_chk2 v294), ∀ a, (k0_off14 v294) a + S1x1.size a ≤ S16x8.size a := fun v294 k0_hw2 => k0_hw2.2.2.2.2.2.1
theorem k0_off15_inb : ∀ (v294 : BitVec 32) (k0_hw2 : k0_chk2 v294), ∀ a, (k0_off15 v294) a + S1x1.size a ≤ S16x8.size a := fun v294 k0_hw2 => k0_hw2.2.2.2.2.2.2.1
theorem k0_off16_inb : ∀ (v294 : BitVec 32) (k0_hw2 : k0_chk2 v294), ∀ a, (k0_off16 v294) a + S1x1.size a ≤ S16x8.size a := fun v294 k0_hw2 => k0_hw2.2.2.2.2.2.2.2

def k0_off17 (v540 : BitVec 32) : Fin 2 → Nat :=
  let v541 : Index := Scalar.indexCast v540
  let c0_494 : Index := 0#32
  ![v541.toNat, 0]

def k0_off18 (v540 : BitVec 32) : Fin 2 → Nat :=
  let v547 : Index := Scalar.indexCast v540
  let c1_498 : Index := 1#32
  ![v547.toNat, 1]
def k0_off19 (v540 : BitVec 32) : Fin 2 → Nat :=
  let v553 : Index := Scalar.indexCast v540
  let c2_502 : Index := 2#32
  ![v553.toNat, 2]
def k0_off20 (v540 : BitVec 32) : Fin 2 → Nat :=
  let v559 : Index := Scalar.indexCast v540
  let c3_506 : Index := 3#32
  ![v559.toNat, 3]
def k0_off21 (v540 : BitVec 32) : Fin 2 → Nat :=
  let v565 : Index := Scalar.indexCast v540
  let c4_510 : Index := 4#32
  ![v565.toNat, 4]
def k0_off22 (v540 : BitVec 32) : Fin 2 → Nat :=
  let v571 : Index := Scalar.indexCast v540
  let c5_514 : Index := 5#32
  ![v571.toNat, 5]
def k0_off23 (v540 : BitVec 32) : Fin 2 → Nat :=
  let v577 : Index := Scalar.indexCast v540
  let c6_518 : Index := 6#32
  ![v577.toNat, 6]
def k0_off24 (v540 : BitVec 32) : Fin 2 → Nat :=
  let v583 : Index := Scalar.indexCast v540
  let c7_522 : Index := 7#32
  ![v583.toNat, 7]

def k0_chk3 (v540 : BitVec 32) : Prop :=
  (∀ a, (k0_off17 v540) a + S1x1.size a ≤ S16x8.size a) ∧
  (∀ a, (k0_off18 v540) a + S1x1.size a ≤ S16x8.size a) ∧
  (∀ a, (k0_off19 v540) a + S1x1.size a ≤ S16x8.size a) ∧
  (∀ a, (k0_off20 v540) a + S1x1.size a ≤ S16x8.size a) ∧
  (∀ a, (k0_off21 v540) a + S1x1.size a ≤ S16x8.size a) ∧
  (∀ a, (k0_off22 v540) a + S1x1.size a ≤ S16x8.size a) ∧
  (∀ a, (k0_off23 v540) a + S1x1.size a ≤ S16x8.size a) ∧
  (∀ a, (k0_off24 v540) a + S1x1.size a ≤ S16x8.size a)
theorem k0_off17_inb : ∀ (v540 : BitVec 32) (k0_hw3 : k0_chk3 v540), ∀ a, (k0_off17 v540) a + S1x1.size a ≤ S16x8.size a := fun v540 k0_hw3 => k0_hw3.1
theorem k0_off18_inb : ∀ (v540 : BitVec 32) (k0_hw3 : k0_chk3 v540), ∀ a, (k0_off18 v540) a + S1x1.size a ≤ S16x8.size a := fun v540 k0_hw3 => k0_hw3.2.1
theorem k0_off19_inb : ∀ (v540 : BitVec 32) (k0_hw3 : k0_chk3 v540), ∀ a, (k0_off19 v540) a + S1x1.size a ≤ S16x8.size a := fun v540 k0_hw3 => k0_hw3.2.2.1
theorem k0_off20_inb : ∀ (v540 : BitVec 32) (k0_hw3 : k0_chk3 v540), ∀ a, (k0_off20 v540) a + S1x1.size a ≤ S16x8.size a := fun v540 k0_hw3 => k0_hw3.2.2.2.1
theorem k0_off21_inb : ∀ (v540 : BitVec 32) (k0_hw3 : k0_chk3 v540), ∀ a, (k0_off21 v540) a + S1x1.size a ≤ S16x8.size a := fun v540 k0_hw3 => k0_hw3.2.2.2.2.1
theorem k0_off22_inb : ∀ (v540 : BitVec 32) (k0_hw3 : k0_chk3 v540), ∀ a, (k0_off22 v540) a + S1x1.size a ≤ S16x8.size a := fun v540 k0_hw3 => k0_hw3.2.2.2.2.2.1
theorem k0_off23_inb : ∀ (v540 : BitVec 32) (k0_hw3 : k0_chk3 v540), ∀ a, (k0_off23 v540) a + S1x1.size a ≤ S16x8.size a := fun v540 k0_hw3 => k0_hw3.2.2.2.2.2.2.1
theorem k0_off24_inb : ∀ (v540 : BitVec 32) (k0_hw3 : k0_chk3 v540), ∀ a, (k0_off24 v540) a + S1x1.size a ≤ S16x8.size a := fun v540 k0_hw3 => k0_hw3.2.2.2.2.2.2.2

def k0_off25 (v786 : BitVec 32) : Fin 2 → Nat :=
  let v787 : Index := Scalar.indexCast v786
  let c0_713 : Index := 0#32
  ![v787.toNat, 0]

def k0_off26 (v786 : BitVec 32) : Fin 2 → Nat :=
  let v793 : Index := Scalar.indexCast v786
  let c1_717 : Index := 1#32
  ![v793.toNat, 1]
def k0_off27 (v786 : BitVec 32) : Fin 2 → Nat :=
  let v799 : Index := Scalar.indexCast v786
  let c2_721 : Index := 2#32
  ![v799.toNat, 2]
def k0_off28 (v786 : BitVec 32) : Fin 2 → Nat :=
  let v805 : Index := Scalar.indexCast v786
  let c3_725 : Index := 3#32
  ![v805.toNat, 3]
def k0_off29 (v786 : BitVec 32) : Fin 2 → Nat :=
  let v811 : Index := Scalar.indexCast v786
  let c4_729 : Index := 4#32
  ![v811.toNat, 4]
def k0_off30 (v786 : BitVec 32) : Fin 2 → Nat :=
  let v817 : Index := Scalar.indexCast v786
  let c5_733 : Index := 5#32
  ![v817.toNat, 5]
def k0_off31 (v786 : BitVec 32) : Fin 2 → Nat :=
  let v823 : Index := Scalar.indexCast v786
  let c6_737 : Index := 6#32
  ![v823.toNat, 6]
def k0_off32 (v786 : BitVec 32) : Fin 2 → Nat :=
  let v829 : Index := Scalar.indexCast v786
  let c7_741 : Index := 7#32
  ![v829.toNat, 7]

def k0_chk4 (v786 : BitVec 32) : Prop :=
  (∀ a, (k0_off25 v786) a + S1x1.size a ≤ S16x8.size a) ∧
  (∀ a, (k0_off26 v786) a + S1x1.size a ≤ S16x8.size a) ∧
  (∀ a, (k0_off27 v786) a + S1x1.size a ≤ S16x8.size a) ∧
  (∀ a, (k0_off28 v786) a + S1x1.size a ≤ S16x8.size a) ∧
  (∀ a, (k0_off29 v786) a + S1x1.size a ≤ S16x8.size a) ∧
  (∀ a, (k0_off30 v786) a + S1x1.size a ≤ S16x8.size a) ∧
  (∀ a, (k0_off31 v786) a + S1x1.size a ≤ S16x8.size a) ∧
  (∀ a, (k0_off32 v786) a + S1x1.size a ≤ S16x8.size a)
theorem k0_off25_inb : ∀ (v786 : BitVec 32) (k0_hw4 : k0_chk4 v786), ∀ a, (k0_off25 v786) a + S1x1.size a ≤ S16x8.size a := fun v786 k0_hw4 => k0_hw4.1
theorem k0_off26_inb : ∀ (v786 : BitVec 32) (k0_hw4 : k0_chk4 v786), ∀ a, (k0_off26 v786) a + S1x1.size a ≤ S16x8.size a := fun v786 k0_hw4 => k0_hw4.2.1
theorem k0_off27_inb : ∀ (v786 : BitVec 32) (k0_hw4 : k0_chk4 v786), ∀ a, (k0_off27 v786) a + S1x1.size a ≤ S16x8.size a := fun v786 k0_hw4 => k0_hw4.2.2.1
theorem k0_off28_inb : ∀ (v786 : BitVec 32) (k0_hw4 : k0_chk4 v786), ∀ a, (k0_off28 v786) a + S1x1.size a ≤ S16x8.size a := fun v786 k0_hw4 => k0_hw4.2.2.2.1
theorem k0_off29_inb : ∀ (v786 : BitVec 32) (k0_hw4 : k0_chk4 v786), ∀ a, (k0_off29 v786) a + S1x1.size a ≤ S16x8.size a := fun v786 k0_hw4 => k0_hw4.2.2.2.2.1
theorem k0_off30_inb : ∀ (v786 : BitVec 32) (k0_hw4 : k0_chk4 v786), ∀ a, (k0_off30 v786) a + S1x1.size a ≤ S16x8.size a := fun v786 k0_hw4 => k0_hw4.2.2.2.2.2.1
theorem k0_off31_inb : ∀ (v786 : BitVec 32) (k0_hw4 : k0_chk4 v786), ∀ a, (k0_off31 v786) a + S1x1.size a ≤ S16x8.size a := fun v786 k0_hw4 => k0_hw4.2.2.2.2.2.2.1
theorem k0_off32_inb : ∀ (v786 : BitVec 32) (k0_hw4 : k0_chk4 v786), ∀ a, (k0_off32 v786) a + S1x1.size a ≤ S16x8.size a := fun v786 k0_hw4 => k0_hw4.2.2.2.2.2.2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x2048x1024 : Shape := ⟨3, ![4, 2048, 1024]⟩
abbrev S4 : Shape := ⟨1, ![4]⟩
abbrev S16x8 : Shape := ⟨2, ![16, 8]⟩
abbrev S1024x1024 : Shape := ⟨2, ![1024, 1024]⟩
abbrev S1024 : Shape := ⟨1, ![1024]⟩
abbrev S1x8x1024x16 : Shape := ⟨4, ![1, 8, 1024, 16]⟩
abbrev S1x8x16x1024 : Shape := ⟨4, ![1, 8, 16, 1024]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x8 : Shape := ⟨2, ![4, 8]⟩
abbrev S4x1x8 : Shape := ⟨3, ![4, 1, 8]⟩
abbrev S4x1x1 : Shape := ⟨3, ![4, 1, 1]⟩
abbrev S1x1024x16x4 : Shape := ⟨4, ![1, 1024, 16, 4]⟩
abbrev S4x1x1024x16 : Shape := ⟨4, ![4, 1, 1024, 16]⟩
abbrev S4x1024x16 : Shape := ⟨3, ![4, 1024, 16]⟩
abbrev S1x16x1024x4 : Shape := ⟨4, ![1, 16, 1024, 4]⟩
abbrev S4x1x16x1024 : Shape := ⟨4, ![4, 1, 16, 1024]⟩
abbrev S4x16x1x1024 : Shape := ⟨4, ![4, 16, 1, 1024]⟩
abbrev S4x16x1024 : Shape := ⟨3, ![4, 16, 1024]⟩
abbrev S4x2048x16 : Shape := ⟨3, ![4, 2048, 16]⟩
abbrev S1x1x1024 : Shape := ⟨3, ![1, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S16x8, .f32⟩
  | .hbm, ⟨3, _⟩ => ⟨S1024x1024, .f32⟩
  | .hbm, ⟨4, _⟩ => ⟨S1024, .f32⟩
  | .hbm, ⟨5, _⟩ => ⟨S1x8x1024x16, .f32⟩
  | .hbm, ⟨6, _⟩ => ⟨S1x8x16x1024, .f32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S1, .i32⟩
  | .hbm, ⟨16, _⟩ => ⟨S_, .i32⟩
  | .hbm, ⟨17, _⟩ => ⟨S4x1, .i32⟩
  | .hbm, ⟨18, _⟩ => ⟨S4x1, .i1⟩
  | .hbm, ⟨19, _⟩ => ⟨S1x1, .i32⟩
  | .hbm, ⟨20, _⟩ => ⟨S4x1, .i32⟩
  | .hbm, ⟨21, _⟩ => ⟨S4x1, .i1⟩
  | .hbm, ⟨22, _⟩ => ⟨S4x1, .i1⟩
  | .hbm, ⟨23, _⟩ => ⟨S_, .i1⟩
  | .hbm, ⟨24, _⟩ => ⟨S4, .i1⟩
  | .hbm, ⟨25, _⟩ => ⟨S4x8, .f32⟩
  | .hbm, ⟨26, _⟩ => ⟨S4x8, .i1⟩
  | .hbm, ⟨27, _⟩ => ⟨S_, .f32⟩
  | .hbm, ⟨28, _⟩ => ⟨S4x8, .f32⟩
  | .hbm, ⟨29, _⟩ => ⟨S4x8, .f32⟩
  | .hbm, ⟨30, _⟩ => ⟨S4x1x8, .f32⟩
  | .hbm, ⟨31, _⟩ => ⟨S4x1x8, .f32⟩
  | .hbm, ⟨32, _⟩ => ⟨S4x1x8, .f32⟩
  | .hbm, ⟨33, _⟩ => ⟨S_, .f32⟩
  | .hbm, ⟨34, _⟩ => ⟨S4x1x8, .f32⟩
  | .hbm, ⟨35, _⟩ => ⟨S4x1x8, .f32⟩
  | .hbm, ⟨36, _⟩ => ⟨S_, .f32⟩
  | .hbm, ⟨37, _⟩ => ⟨S4x1x8, .f32⟩
  | .hbm, ⟨38, _⟩ => ⟨S4x1x8, .f32⟩
  | .hbm, ⟨39, _⟩ => ⟨S_, .f32⟩
  | .hbm, ⟨40, _⟩ => ⟨S4x1, .f32⟩
  | .hbm, ⟨41, _⟩ => ⟨S4x1x1, .f32⟩
  | .hbm, ⟨42, _⟩ => ⟨S_, .f32⟩
  | .hbm, ⟨43, _⟩ => ⟨S4x1x1, .f32⟩
  | .hbm, ⟨44, _⟩ => ⟨S4x1x1, .f32⟩
  | .hbm, ⟨45, _⟩ => ⟨S4x1x8, .f32⟩
  | .hbm, ⟨46, _⟩ => ⟨S4x1x8, .f32⟩
  | .hbm, ⟨47, _⟩ => ⟨S1x1024x16x4, .f32⟩
  | .hbm, ⟨48, _⟩ => ⟨S4x1x1024x16, .f32⟩
  | .hbm, ⟨49, _⟩ => ⟨S4x1024x16, .f32⟩
  | .hbm, ⟨50, _⟩ => ⟨S1x16x1024x4, .f32⟩
  | .hbm, ⟨51, _⟩ => ⟨S4x1x16x1024, .f32⟩
  | .hbm, ⟨52, _⟩ => ⟨S4x16x1x1024, .f32⟩
  | .hbm, ⟨53, _⟩ => ⟨S4x16x1024, .f32⟩
  | .hbm, ⟨54, _⟩ => ⟨S4x2048x16, .f32⟩
  | .hbm, ⟨55, _⟩ => ⟨S4x2048x1024, .f32⟩
  | .hbm, ⟨56, _⟩ => ⟨S_, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_cst_0 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩

abbrev nD : Nat := 1
abbrev τ : Topo := Topo.v7x

variable {F : FTy → Type} [FloatOps F]
-- ==== Proof.Pre.lean ====
/-
  The two preconditions, read back. Each is stated as an `i1` array that is everywhere 1; here it becomes what it says of the
  elements: a task id is a number below 16, and an entry of an array is neither infinity.
-/
module

public import proofs.«01_k».proof.Defs
public import Idealize.ShloMosaic.Lib.ReduceAll
public import Idealize.ShloMosaic.Lib.KernelVsHost

@[expose] public section

noncomputable section

namespace Cert.Pre

open Idealize.ShloMosaic Idealize.ShloMosaic.TcCoe

/-! ## The side conditions the predicates state -/

instance idsFacts : Cert.Pre_task_ids_in_range.Facts where
  bcast_S_S4 := by decide

instance finiteFacts : Cert.Pre_finite_and_in_range.Facts where
  bcast_S_S4 := by decide
  bcast_S_S4x2048x1024 := by decide
  bcast_S_S1x8x1024x16 := by decide
  bcast_S_S1x8x16x1024 := by decide
  reducesTo_S4_S_d0 := by decide
  h_S_ := by decide
  reducesTo_S4x2048x1024_S_d0_1_2 := by decide
  reducesTo_S1x8x1024x16_S_d0_1_2_3 := by decide
  reducesTo_S1x8x16x1024_S_d0_1_2_3 := by decide

/-! ## One element -/

/-- Signed comparisons `0 ≤ v` and `v < 16` of a 32-bit word, both 1: its number is below 16. -/
theorem lt_of_and (v : BitVec 32)
    (e : IntOp.andi (IntOp.cmpi .sge v 0#32) (IntOp.cmpi .slt v 16#32) = 1#1) : v.toNat < 16 := by
  obtain ⟨hge, hlt⟩ := IntOp.andi_eq_one.1 e
  have hge := IntOp.cmpi_sge.1 hge
  have hlt := IntOp.cmpi_slt.1 hlt
  have h16 : (16#32 : BitVec 32).toInt = 16 := by decide
  have h0 : (0#32 : BitVec 32).toInt = 0 := by decide
  rw [h0] at hge
  rw [h16] at hlt
  rw [BitVec.toInt_eq_toNat_cond] at hge hlt
  have hv := v.isLt
  split at hge <;> omega

/-- `|x| < +∞` comes out 1: the value is neither infinity. -/
theorem finite_of_olt (x : EReal)
    (e : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at e
  refine ⟨?_, ?_⟩ <;> rintro rfl <;> simp [Ideal.cmp] at e

/-! ## The predicates -/

variable {F : FTy → Type} [FloatOps F]

/-- The range predicate on the task ids, at every float instance: each of the four ids is below 16. -/
theorem ids_lt (x : FVec F Cert.Pre_task_ids_in_range.S4x2048x1024 .f32) (ids : IVec Cert.Pre_task_ids_in_range.S4 32)
    (tab : FVec F Cert.Pre_task_ids_in_range.S16x8 .f32) (w : FVec F Cert.Pre_task_ids_in_range.S1024x1024 .f32)
    (b : FVec F Cert.Pre_task_ids_in_range.S1024 .f32) (la : FVec F Cert.Pre_task_ids_in_range.S1x8x1024x16 .f32)
    (lb : FVec F Cert.Pre_task_ids_in_range.S1x8x16x1024 .f32)
    (e : Cert.Pre_task_ids_in_range.fn x ids tab w b la lb = fun _ => 1#1) (i : Cert.Pre_task_ids_in_range.S4.Idx) :
    (ids i).toNat < 16 := lt_of_and _ (congrFun e i)

/-- The predicate of the value claim: each id is below 16, and no entry of the activations or of either factor table is infinite. -/
theorem finite (x : FVec Ideal Cert.Pre_finite_and_in_range.S4x2048x1024 .f32) (ids : IVec Cert.Pre_finite_and_in_range.S4 32)
    (tab : FVec Ideal Cert.Pre_finite_and_in_range.S16x8 .f32) (w : FVec Ideal Cert.Pre_finite_and_in_range.S1024x1024 .f32)
    (b : FVec Ideal Cert.Pre_finite_and_in_range.S1024 .f32) (la : FVec Ideal Cert.Pre_finite_and_in_range.S1x8x1024x16 .f32)
    (lb : FVec Ideal Cert.Pre_finite_and_in_range.S1x8x16x1024 .f32)
    (e : Cert.Pre_finite_and_in_range.fn x ids tab w b la lb = fun _ => 1#1) :
    (∀ i, (ids i).toNat < 16) ∧ (∀ i, (x i : EReal) ≠ ⊤ ∧ (x i : EReal) ≠ ⊥) ∧ (∀ i, (la i : EReal) ≠ ⊤ ∧ (la i : EReal) ≠ ⊥)
      ∧ ∀ i, (lb i : EReal) ≠ ⊤ ∧ (lb i : EReal) ≠ ⊥ := by
  have hS : Subsingleton Cert.Pre_finite_and_in_range.S_.Idx := ⟨fun a b => funext fun k => k.elim0⟩
  have e0 := congrFun e (fun k => k.elim0)
  unfold Cert.Pre_finite_and_in_range.fn Cert.Pre_finite_and_in_range.fn_part1 at e0
  obtain ⟨e1, elb⟩ := IntOp.andi_eq_one.1 e0
  obtain ⟨e2, ela⟩ := IntOp.andi_eq_one.1 e1
  obtain ⟨eid, ex⟩ := IntOp.andi_eq_one.1 e2
  exact ⟨fun i => lt_of_and _ (Host.reduce_andi_all _ _ _ _ _ eid i),
    fun i => finite_of_olt _ (Host.reduce_andi_all _ _ _ _ _ ex i),
    fun i => finite_of_olt _ (Host.reduce_andi_all _ _ _ _ _ ela i),
    fun i => finite_of_olt _ (Host.reduce_andi_all _ _ _ _ _ elb i)⟩

end Cert.Pre

end
-- ==== Proof.Body.lean ====
/-
  The kernel's body as one run, from the buffers it finds to the buffers it leaves. The body has no grid: it is run once,
  on whole staged operands, and it moves the tokens in and the result out with 32 copies of its own, two to each of its
  sixteen semaphores, never two at a time on the same one. Nothing here looks at a value: what the run leaves in the
  result is read in `Proof/Stored.lean`.
-/
module

public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The tokens, the result and the three scratch buffers. -/
abbrev xM : Memref sig .tc .hbm S4x2048x1024 .f32 := Memref.whole main_arg0
abbrev oM : Memref sig .tc .hbm S4x2048x1024 .f32 := Memref.whole main_v3
abbrev xbM : Memref sig .tc .vmem S2x2048x1024 .f32 := Memref.whole cc0_scratch0
abbrev obM : Memref sig .tc .vmem S2x2048x1024 .f32 := Memref.whole cc0_scratch1
abbrev wfM : Memref sig .tc .vmem S1024x1024 .f32 := Memref.whole cc0_scratch2

abbrev MBuf (c : Dev nD) {sp : Space} {S : Shape} {e : EltTy} (M : Memref sig .tc sp S e) : Type := Buf (Elt F) (M.view.loc (c : Thread nD τ))
abbrev MPt (c : Dev nD) {sp : Space} {S : Shape} {e : EltTy} (M : Memref sig .tc sp S e) (f : MBuf (F := F) c M) : sProp 𝕄 :=
  M.view.loc (c : Thread nD τ) ↦{fullShare} f

/-- The body's DMA semaphores, all at zero. -/
abbrev cellsAt0 (c : Dev nD) : sProp 𝕄 :=
  iprop(semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0
    ∗ semVal ((c : Thread nD τ), SemLoc.dma 14) 0 ∗ semVal ((c : Thread nD τ), SemLoc.dma 15) 0
    ∗ semVal ((c : Thread nD τ), SemLoc.dma 16) 0 ∗ semVal ((c : Thread nD τ), SemLoc.dma 17) 0
    ∗ semVal ((c : Thread nD τ), SemLoc.dma 18) 0 ∗ semVal ((c : Thread nD τ), SemLoc.dma 19) 0
    ∗ semVal ((c : Thread nD τ), SemLoc.dma 20) 0 ∗ semVal ((c : Thread nD τ), SemLoc.dma 21) 0)

/-- The word a load of one element of the task ids reads. -/
abbrev word (c : Dev nD) (arg0 : Memref sig .tc .smem S4 .i32) (f0 : MBuf (F := F) c arg0) (off : Fin 1 → ℕ)
    (inb : ∀ a, off a + S1.size a ≤ S4.size a) : BitVec 32 :=
  View.readAt (Elt F) arg0.view (Rect.unit (s := S4) off S1.size inb).toLoadRect f0 (Shape.Idx.first (s := S1) (by decide))

set_option maxHeartbeats 0 in
set_option sl_exec.dmaWindow true in
set_option sl_exec.squeezeSlice true in
/-- THE RUN. Holding the staged operands, the tokens, the result, the three scratch buffers and the sixteen semaphores at
    zero, and given that the four task ids name rows of the table of logits, the body runs to its end; it gives the operands
    and the tokens back unchanged, the semaphores at zero, and the result at contents (the first component) that depend on
    what it found alone. -/
def bodyRun (c : Dev nD)
    (arg0 : Memref sig .tc .smem S4 .i32) (harg0 : arg0.IsWhole) (arg1 : Memref sig .tc .smem S16x8 .f32) (harg1 : arg1.IsWhole)
    (arg3 : Memref sig .tc .vmem S1024x1024 .f32) (harg3 : arg3.IsWhole) (arg4 : Memref sig .tc .vmem S1x1024 .f32) (harg4 : arg4.IsWhole)
    (arg5 : Memref sig .tc .vmem S8x1024x16 .f32) (harg5 : arg5.IsWhole) (arg6 : Memref sig .tc .vmem S8x16x1024 .f32) (harg6 : arg6.IsWhole)
    (f0 : MBuf (F := F) c arg0) (f1 : MBuf (F := F) c arg1) (f3 : MBuf (F := F) c arg3) (f4 : MBuf (F := F) c arg4)
    (f5 : MBuf (F := F) c arg5) (f6 : MBuf (F := F) c arg6) (fx : MBuf (F := F) c xM) (fo : MBuf (F := F) c oM)
    (fxb : MBuf (F := F) c xbM) (fob : MBuf (F := F) c obM) (fwf : MBuf (F := F) c wfM)
    (h1 : k0_chk1 (word c arg0 f0 ![0] inb_S4_S1_0))
    (h2 : k0_chk2 (word c arg0 f0 ![1] inb_S4_S1_1))
    (h3 : k0_chk3 (word c arg0 f0 ![2] inb_S4_S1_2))
    (h4 : k0_chk4 (word c arg0 f0 ![3] inb_S4_S1_3)) :
    { g : MBuf (F := F) c oM //
      ∀ (W : Waits sig Unit) (K : PUnit → sProp 𝕄),
        iprop(((arg0.view.loc (c : Thread nD τ) ↦[arg0.view.set]{fullShare} f0) ∗ (arg1.view.loc (c : Thread nD τ) ↦[arg1.view.set]{fullShare} f1)
            ∗ (arg3.view.loc (c : Thread nD τ) ↦[arg3.view.set]{fullShare} f3) ∗ (arg4.view.loc (c : Thread nD τ) ↦[arg4.view.set]{fullShare} f4)
            ∗ (arg5.view.loc (c : Thread nD τ) ↦[arg5.view.set]{fullShare} f5) ∗ (arg6.view.loc (c : Thread nD τ) ↦[arg6.view.set]{fullShare} f6))
            ∗ MPt c xM fx ∗ MPt c oM fo ∗ (MPt c xbM fxb ∗ MPt c obM fob ∗ MPt c wfM fwf)
            ∗ cellsAt0 c ∗ owes (c : Thread nD τ) 0 W
            ∗ (iprop(((arg0.view.loc (c : Thread nD τ) ↦[arg0.view.set]{fullShare} f0) ∗ (arg1.view.loc (c : Thread nD τ) ↦[arg1.view.set]{fullShare} f1)
                ∗ (arg3.view.loc (c : Thread nD τ) ↦[arg3.view.set]{fullShare} f3) ∗ (arg4.view.loc (c : Thread nD τ) ↦[arg4.view.set]{fullShare} f4)
                ∗ (arg5.view.loc (c : Thread nD τ) ↦[arg5.view.set]{fullShare} f5) ∗ (arg6.view.loc (c : Thread nD τ) ↦[arg6.view.set]{fullShare} f6))
                ∗ MPt c xM fx ∗ MPt c oM g ∗ ((∃ f, MPt c xbM f) ∗ (∃ f, MPt c obM f) ∗ (∃ f, MPt c wfM f))
                ∗ cellsAt0 c ∗ (∃ W', owes (c : Thread nD τ) 0 W')) -∗ K ⟨⟩))
          ⊢ wp frame (wpE (defs₀ (F := F)) Variants.none c none) Set.univ
              (cc0__fused_body arg0 harg0 arg1 harg1 xM (Memref.isWhole_whole _) arg3 harg3 arg4 harg4 arg5 harg5 arg6 harg6
                oM (Memref.isWhole_whole _) xbM (Memref.isWhole_whole _) obM (Memref.isWhole_whole _) wfM (Memref.isWhole_whole _)
                cc0_scratch3 cc0_scratch4) K } := by
  refine ⟨?_, fun W K => ?run⟩
  case run =>
    simp only [cc0__fused_body_eq_skeleton]; unfold cc0__fused_body_skel
    iintro ⟨⟨H0, H1, H3, H4, H5, H6⟩, Hx, Ho, ⟨Hxb, Hob, Hwf⟩, ⟨Hq6, Hq7, Hq8, Hq9, Hq10, Hq11, Hq12, Hq13, Hq14, Hq15, Hq16, Hq17, Hq18, Hq19, Hq20, Hq21⟩, HW, Hk⟩
    sl_exec
    sl_step
    iapply Hk
    isplitl [H0 H1 H3 H4 H5 H6]
    · isplitl [H0]; · iexact H0
      isplitl [H1]; · iexact H1
      isplitl [H3]; · iexact H3
      isplitl [H4]; · iexact H4
      isplitl [H5]; · iexact H5
      iexact H6
    isplitl [Hx]; · iexact Hx
    isplitl [Ho]; · iexact Ho
    isplitl [Hxb Hob Hwf]
    · isplitl [Hxb]; · iexists _; iexact Hxb
      isplitl [Hob]; · iexists _; iexact Hob
      iexists _; iexact Hwf
    isplitl [Hq6 Hq7 Hq8 Hq9 Hq10 Hq11 Hq12 Hq13 Hq14 Hq15 Hq16 Hq17 Hq18 Hq19 Hq20 Hq21]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      iexact Hq21
    iexists _; iexact HW

end Cert.KernelIdeal.Hand

end
-- ==== Proof.Ids.lean ====
/-
  The task ids the body reads: which word a load reads, and that the body's check of one is that it names a row of the
  table of logits.
-/
module

public import proofs.«01_k».proof.Proof.Body
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- A task id that passes the body's check names a row of the table. -/
theorem lt_of_chk1 {v : BitVec 32} (h : k0_chk1 v) : v.toNat < 16 := h.1 0
theorem lt_of_chk2 {v : BitVec 32} (h : k0_chk2 v) : v.toNat < 16 := h.1 0
theorem lt_of_chk3 {v : BitVec 32} (h : k0_chk3 v) : v.toNat < 16 := h.1 0
theorem lt_of_chk4 {v : BitVec 32} (h : k0_chk4 v) : v.toNat < 16 := h.1 0

/-- A task id below sixteen passes the body's check: its eight offsets are the entries of one row of the table. -/
theorem chk1_of_lt {v : BitVec 32} (h : v.toNat < 16) : k0_chk1 v := by
  refine ⟨?_, ?_, ?_, ?_, ?_, ?_, ?_, ?_⟩ <;> intro a <;> match a with
    | ⟨0, _⟩ => exact h
    | ⟨1, _⟩ => exact Nat.le_of_ble_eq_true rfl
theorem chk2_of_lt {v : BitVec 32} (h : v.toNat < 16) : k0_chk2 v := chk1_of_lt h
theorem chk3_of_lt {v : BitVec 32} (h : v.toNat < 16) : k0_chk3 v := chk1_of_lt h
theorem chk4_of_lt {v : BitVec 32} (h : v.toNat < 16) : k0_chk4 v := chk1_of_lt h

/-- The word a load of one task id reads is that task id. -/
theorem word_eq (c : Dev nD) (arg0 : Memref sig .tc .smem S4 .i32) (f0 : MBuf (F := F) c arg0) (b : Fin 4)
    (inb : ∀ a, (![b.val] : Fin 1 → ℕ) a + S1.size a ≤ S4.size a) :
    word c arg0 f0 ![b.val] inb = (arg0.view.read (Elt F) f0 : Vec F S4 .i32) (ix1 b : S4.Idx) := by
  refine congrArg (arg0.view.read (Elt F) f0) (funext fun a => Fin.ext ?_)
  match a with
  | ⟨0, _⟩ => show b.val + 1 * 0 = b.val; omega

end Cert.KernelIdeal.Hand

end
-- ==== Proof.Launch.lean ====
/-
  The launch: the pipeline stages the six whole operands, runs the body once and hands back every buffer. `run_main` says of
  every run from any memory whose four task ids name rows of the table: it ends, nothing faults, the seven argument arrays are
  as they were, every semaphore reads zero, and the result array satisfies any property `Good` that the run of the body
  (`bodyRun`) establishes of what it leaves.
-/
module

public import proofs.«01_k».proof.Proof.Ids
public import Idealize.ShloMosaic.Lib.Pipeline.KitQuiescent
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's own sixteen semaphores. -/
def osem0 : Fin 16 → SemLoc sig := ![.dma 6, .dma 7, .dma 8, .dma 9, .dma 10, .dma 11, .dma 12, .dma 13, .dma 14, .dma 15, .dma 16, .dma 17, .dma 18, .dma 19, .dma 20, .dma 21]
theorem ownSemFacts0 : Pipeline.OwnSemFacts spec0 osem0 := by decide

theorem ownSems0_chain (c : Dev nD) : (Pipeline.ownSems0 (Ix := Unit) (Name := ℕ) (U := Pipeline.UD sig nD τ) (Lvl := ℕ) (Val := Elt F) (τ := τ) osem0 c : sProp 𝕄)
    = cellsAt0 c :=
  Pipeline.ownSems0_eq_of_list c osem0 [0, 1, 2, 3, 4, 5, 6, 7, 8, 9, 10, 11, 12, 13, 14, 15] (by decide) (by decide)

/-- The run of @main up to the kernel, for the resources this proof uses. -/
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

-- what the kernel is known to leave in the result array of each core
variable (Good : (c : Dev nD) → MBuf (F := F) c oM → Prop)

/-- What the kernel holds between its ends: its three scratch buffers and the generator register at anything, its semaphores
    at zero, the tokens as launched, and the result, which is `Good` once the one point is over. -/
def Φ (c : Dev nD) (i : Fin (cfg0.N + 1)) : sProp 𝕄 :=
  iprop(((∃ f, MPt c xbM f) ∗ (∃ f, MPt c obM f) ∗ (∃ f, MPt c wfM f)) ∗ (∃ r, prngReg c r) ∗ cellsAt0 c
    ∗ MPt c xM (V m c main_arg0) ∗ (∃ g, ⌜i = Fin.last cfg0.N → Good c g⌝ ∗ MPt c oM g))

/-- The proof data of the pipeline: the operands as the kernel finds them, left in place; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ i := Φ m Good c i
  q _ := fullShare
  owed _ := 0

theorem A_eq (c : Dev nD) (w : Fin cfg0.W) : (dats m Good 0 c).A w = V m c (Pipeline.arrRef spec0 w) := by
  dsimp only [dats]

/-- Each operand's staging buffer holds its block when the body starts. -/
theorem before_eq (c : Dev nD) (w : Fin cfg0.W) (t : Fin cfg0.N) (d) : (dats m Good 0 c).before w t d = (dats m Good 0 c).after w t := by
  fin_cases w <;>
    exact ((dats m Good 0 c).before_in_eq_fetched _ rfl (fun _ => rfl) (fun _ _ _ => rfl) (fun t => rfl) t d).trans rfl

/-- The windows are their whole arrays: what is staged is the array as the kernel finds it. -/
theorem after0 (c : Dev nD) (t : Fin cfg0.N) : (dats m Good 0 c).after 0 t = (V m c main_arg1 : Vec F S4 .i32) := by
  show iblk m c 0 t = _
  have hi : ∀ a, win0_0.index t0_0 a = 0 := by decide
  blk_ext! [iblk, V, fin_N0 t, hi]
theorem after1 (c : Dev nD) (t : Fin cfg0.N) : (dats m Good 0 c).after 1 t = (V m c main_arg2 : Vec F S16x8 .f32) := by
  show iblk m c 1 t = _
  have hi : ∀ a, win0_1.index t0_0 a = 0 := by decide
  blk_ext! [iblk, V, fin_N0 t, hi]
theorem after2 (c : Dev nD) (t : Fin cfg0.N) : (dats m Good 0 c).after 2 t = (V m c main_arg3 : Vec F S1024x1024 .f32) := by
  show iblk m c 2 t = _
  have hi : ∀ a, win0_2.index t0_0 a = 0 := by decide
  blk_ext! [iblk, V, fin_N0 t, hi]
theorem after3 (c : Dev nD) (t : Fin cfg0.N) : (dats m Good 0 c).after 3 t = (V m c main_v0 : Vec F S1x1024 .f32) := by
  show iblk m c 3 t = _
  have hi : ∀ a, win0_3.index t0_0 a = 0 := by decide
  blk_ext! [iblk, V, fin_N0 t, hi]
theorem after4 (c : Dev nD) (t : Fin cfg0.N) : (dats m Good 0 c).after 4 t = (V m c main_v1 : Vec F S8x1024x16 .f32) := by
  show iblk m c 4 t = _
  have hi : ∀ a, win0_4.index t0_0 a = 0 := by decide
  blk_ext! [iblk, V, fin_N0 t, hi]
theorem after5 (c : Dev nD) (t : Fin cfg0.N) : (dats m Good 0 c).after 5 t = (V m c main_v2 : Vec F S8x16x1024 .f32) := by
  show iblk m c 5 t = _
  have hi : ∀ a, win0_5.index t0_0 a = 0 := by decide
  blk_ext! [iblk, V, fin_N0 t, hi]

theorem hst0_0 (t : Fin cfg0.N) : (st0_0 t).IsWhole := stage_whole0 0 _
theorem hst0_1 (t : Fin cfg0.N) : (st0_1 t).IsWhole := stage_whole0 1 _
theorem hst0_2 (t : Fin cfg0.N) : (st0_2 t).IsWhole := stage_whole0 2 _
theorem hst0_3 (t : Fin cfg0.N) : (st0_3 t).IsWhole := stage_whole0 3 _
theorem hst0_4 (t : Fin cfg0.N) : (st0_4 t).IsWhole := stage_whole0 4 _
theorem hst0_5 (t : Fin cfg0.N) : (st0_5 t).IsWhole := stage_whole0 5 _

/-- What `Good` must satisfy: the body's run, from the operands as the kernel finds them, establishes it. -/
def GoodRun : Prop := ∀ (c : Dev nD) (t : Fin cfg0.N)
    (f0 : MBuf (F := F) c (st0_0 t)) (f1 : MBuf (F := F) c (st0_1 t)) (f3 : MBuf (F := F) c (st0_2 t)) (f4 : MBuf (F := F) c (st0_3 t)) (f5 : MBuf (F := F) c (st0_4 t)) (f6 : MBuf (F := F) c (st0_5 t))
    (fo : MBuf (F := F) c oM) (fxb : MBuf (F := F) c xbM) (fob : MBuf (F := F) c obM) (fwf : MBuf (F := F) c wfM)
    (h1 : k0_chk1 (word c (st0_0 t) f0 ![0] inb_S4_S1_0))
    (h2 : k0_chk2 (word c (st0_0 t) f0 ![1] inb_S4_S1_1))
    (h3 : k0_chk3 (word c (st0_0 t) f0 ![2] inb_S4_S1_2))
    (h4 : k0_chk4 (word c (st0_0 t) f0 ![3] inb_S4_S1_3)),
    (st0_0 t).view.read (Elt F) f0 = (V m c main_arg1 : Vec F S4 .i32) → (st0_1 t).view.read (Elt F) f1 = (V m c main_arg2 : Vec F S16x8 .f32) → (st0_2 t).view.read (Elt F) f3 = (V m c main_arg3 : Vec F S1024x1024 .f32) → (st0_3 t).view.read (Elt F) f4 = (V m c main_v0 : Vec F S1x1024 .f32) → (st0_4 t).view.read (Elt F) f5 = (V m c main_v1 : Vec F S8x1024x16 .f32) → (st0_5 t).view.read (Elt F) f6 = (V m c main_v2 : Vec F S8x16x1024 .f32) →
    Good c (bodyRun c (st0_0 t) (hst0_0 t) (st0_1 t) (hst0_1 t) (st0_2 t) (hst0_2 t) (st0_3 t) (hst0_3 t) (st0_4 t) (hst0_4 t) (st0_5 t) (hst0_5 t) f0 f1 f3 f4 f5 f6 (V m c main_arg0) fo fxb fob fwf h1 h2 h3 h4).1

/-- The precondition the run needs: the four task ids name rows of the table of logits. -/
def InRange : Prop := ∀ (c : Dev nD) (b : Fin 4), ((m ((c : Thread nD τ).loc main_arg1) : Vec F S4 .i32) (ix1 b : S4.Idx) : BitVec 32).toNat < 16

def bodyPre (c : Dev nD) (t : Fin cfg0.N) : sProp 𝕄 :=
  iprop((dats m Good 0 c).Φ t.castSucc ∗ (dats m Good 0 c).owesAt () t.castSucc
    ∗ (∃ d, owns (c : Thread nD τ) (st0_0 t) fullShare ((dats m Good 0 c).before 0 t d)) ∗ (∃ d, owns (c : Thread nD τ) (st0_1 t) fullShare ((dats m Good 0 c).before 1 t d)) ∗ (∃ d, owns (c : Thread nD τ) (st0_2 t) fullShare ((dats m Good 0 c).before 2 t d)) ∗ (∃ d, owns (c : Thread nD τ) (st0_3 t) fullShare ((dats m Good 0 c).before 3 t d)) ∗ (∃ d, owns (c : Thread nD τ) (st0_4 t) fullShare ((dats m Good 0 c).before 4 t d)) ∗ (∃ d, owns (c : Thread nD τ) (st0_5 t) fullShare ((dats m Good 0 c).before 5 t d)))
def bodyPost (c : Dev nD) (t : Fin cfg0.N) : sProp 𝕄 :=
  iprop((dats m Good 0 c).Φ t.succ ∗ (dats m Good 0 c).owesAt () t.succ
    ∗ owns (c : Thread nD τ) (st0_0 t) fullShare ((dats m Good 0 c).after 0 t) ∗ owns (c : Thread nD τ) (st0_1 t) fullShare ((dats m Good 0 c).after 1 t) ∗ owns (c : Thread nD τ) (st0_2 t) fullShare ((dats m Good 0 c).after 2 t) ∗ owns (c : Thread nD τ) (st0_3 t) fullShare ((dats m Good 0 c).after 3 t) ∗ owns (c : Thread nD τ) (st0_4 t) fullShare ((dats m Good 0 c).after 4 t) ∗ owns (c : Thread nD τ) (st0_5 t) fullShare ((dats m Good 0 c).after 5 t))

variable {m Good} (hr : InRange m) (hg : GoodRun m Good)

include hr hg in
theorem sound_body (c : Dev nD) (t : Fin cfg0.N) :
    bodyPre m Good c t ⊢ wp frame (wpE (defs₀ (F := F)) Variants.none c none) Set.univ (bodyAt0 t) (fun _ => bodyPost m Good c t) := by
  unfold bodyPre bodyPost bodyAt0
  simp only [before_eq]
  rw [after0, after1, after2, after3, after4, after5]
  rw [show (dats m Good 0 c).Φ t.succ = Φ m Good c t.succ from rfl, show (dats m Good 0 c).Φ t.castSucc = Φ m Good c t.castSucc from rfl]
  unfold Φ Dat.owesAt Pipeline.owesWithin owns
  rw [show (dats m Good 0 c).owed t.castSucc = 0 from rfl, show (dats m Good 0 c).owed t.succ = 0 from rfl]
  iintro ⟨⟨⟨⟨%fxb, Hxb⟩, ⟨%fob, Hob⟩, ⟨%fwf, Hwf⟩⟩, Hg, Hq, Hx, ⟨%fo, -, Ho⟩⟩, ⟨%W, -, HW⟩, ⟨%d0, %f0, %e0, H0⟩, ⟨%d1, %f1, %e1, H1⟩, ⟨%d3, %f3, %e3, H3⟩, ⟨%d4, %f4, %e4, H4⟩, ⟨%d5, %f5, %e5, H5⟩, ⟨%d6, %f6, %e6, H6⟩⟩
  have hv : ∀ (b : Fin 4) (inb : ∀ a, (![b.val] : Fin 1 → ℕ) a + S1.size a ≤ S4.size a), (word c (st0_0 t) f0 ![b.val] inb).toNat < 16 := fun b inb => by
    rw [word_eq, e0, V_main_arg1]; exact hr c b
  iapply ((bodyRun c (st0_0 t) (hst0_0 t) (st0_1 t) (hst0_1 t) (st0_2 t) (hst0_2 t) (st0_3 t) (hst0_3 t) (st0_4 t) (hst0_4 t) (st0_5 t) (hst0_5 t) f0 f1 f3 f4 f5 f6 (V m c main_arg0) fo fxb fob fwf
    (chk1_of_lt (hv 0 _)) (chk2_of_lt (hv 1 _)) (chk3_of_lt (hv 2 _)) (chk4_of_lt (hv 3 _))).2 W _)
  isplitl [H0 H1 H3 H4 H5 H6]
  · isplitl [H0]; · iexact H0
    isplitl [H1]; · iexact H1
    isplitl [H3]; · iexact H3
    isplitl [H4]; · iexact H4
    isplitl [H5]; · iexact H5
    iexact H6
  isplitl [Hx]; · iexact Hx
  isplitl [Ho]; · iexact Ho
  isplitl [Hxb Hob Hwf]
  · isplitl [Hxb]; · iexact Hxb
    isplitl [Hob]; · iexact Hob
    iexact Hwf
  isplitl [Hq]; · iexact Hq
  isplitl [HW]; · iexact HW
  iintro ⟨⟨H0, H1, H3, H4, H5, H6⟩, Hx, Ho, Hs, Hq, ⟨%W', HW'⟩⟩
  isplitl [Hs Hg Hq Hx Ho]
  · isplitl [Hs]; · iexact Hs
    isplitl [Hg]; · iexact Hg
    isplitl [Hq]; · iexact Hq
    isplitl [Hx]; · iexact Hx
    iexists _
    isplitr
    swap; · iexact Ho
    ipureintro
    exact fun _ => hg c t f0 f1 f3 f4 f5 f6 fo fxb fob fwf _ _ _ _ e0 e1 e3 e4 e5 e6
  isplitl [HW']
  · iexists W'; isplitr; · ipureintro; exact fun _ _ => Or.inl trivial
    iexact HW'
  isplitl [H0]; · iexists f0; isplitr; · ipureintro; exact e0
                  iexact H0
  isplitl [H1]; · iexists f1; isplitr; · ipureintro; exact e1
                  iexact H1
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists f6; isplitr; · ipureintro; exact e6
  iexact H6

theorem defs₀_row (t : Fin cfg0.N) :
    defs₀ (F := F) .tc cfg0.body (cfg0.bodyArgs t (cfg0.slots t)) = bodyAt0 t := by
  unfold defs₀; rw [Defs.onTc_tc]

include hr hg in
theorem body_obligation (c : Dev nD) : BodyObligation (dats (F := F) m Good 0 c) (defs₀ (F := F)) Variants.none () Set.univ := fun t => by
  rw [bigSep_W0, bigSep_W0, defs₀_row]
  exact triple_restated (sound_body hr hg c t) rfl .rfl fun _ => .rfl

/-- What is known of memory once the kernel has ended: the argument arrays no window stages, and the result. -/
def Kept (c : Dev nD) (s : MemSt nD τ sig (Elt F)) : Prop :=
  s.mem ((c : Thread nD τ).loc main_arg0) = V m c main_arg0 ∧ s.mem ((c : Thread nD τ).loc main_arg4) = V m c main_arg4
    ∧ s.mem ((c : Thread nD τ).loc main_arg5) = V m c main_arg5 ∧ s.mem ((c : Thread nD τ).loc main_arg6) = V m c main_arg6
    ∧ Good c (s.mem ((c : Thread nD τ).loc main_v3))

include hr hg in
set_option backward.isDefEq.respectTransparency.types false in
/-- THE RUN of the program. -/
theorem run_main : θ_run defs (onTc (τ := τ) (main (F := F))) ⟨m, fun _ => 0, ρ⟩ (fun r => (∀ c : Dev nD,
      (∀ w : Fin cfg0.W, r.2.mem (((cfg0.spec w).arr.view.loc (c : Thread nD τ))) = (dats m Good 0 c).arrAt w cfg0.N)
      ∧ Kept (m := m) (Good := Good) c r.2) ∧ r.2.sem = fun _ => 0) :=
  Pipeline.θ_run_region_kit_quiescent cfgs (dats m Good) () (0 : Fin 1) launch0 ownSemFacts0 embL defs₀ Variants.none m ρ main
    (hbody := fun c => (body_obligation hr hg c).loose) (hshare := fun c => (dats m Good 0 c).share_full fun _ => rfl)
    (howed := fun _ _ => rfl) (G := fun _ => iprop(emp))
    (u₀ := (initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmainD m) (hA := A_eq m Good)
    (X := fun c => iprop((∃ r, prngReg c r) ∗ cellsAt0 c ∗ MPt c xM (V m c main_arg0) ∗ MPt c oM (V m c main_v3)))
    (Y := fun c => iprop((∃ r, prngReg c r) ∗ MPt c xM (V m c main_arg0) ∗ (∃ g, ⌜Good c g⌝ ∗ MPt c oM g)))
    (Z := fun c => iprop((((c : Thread nD τ).loc main_arg4) ↦{fullShare} V m c main_arg4) ∗ (((c : Thread nD τ).loc main_arg5) ↦{fullShare} V m c main_arg5)
      ∗ (((c : Thread nD τ).loc main_arg6) ↦{fullShare} V m c main_arg6)))
    (hX := fun c => by
      rw [unscopedRest0_eq, ownSems0_chain]
      iintro ⟨⟨H0, H4, H5, H6, H3⟩, Ho, -, Hp, -⟩; imodintro
      isplitl [H0 H3 Ho Hp]
      · isplitl [Hp]; · iexists _; iexact Hp
        isplitl [Ho]; · iexact Ho
        isplitl [H0]; · iexact H0
        iexact H3
      · isplitl [H4]; · iexact H4
        isplitl [H5]; · iexact H5
        iexact H6)
    (hin := fun c => by
      rw [scopedRest0_eq, show (dats m Good 0 c).Φ 0 = Φ m Good c 0 from rfl]; unfold Φ
      iintro ⟨⟨Hp, Ho, Hx, H3⟩, Hr⟩
      isplitl [Hr]; · iexact Hr
      isplitl [Hp]; · iexact Hp
      isplitl [Ho]; · iexact Ho
      isplitl [Hx]; · iexact Hx
      iexists _
      isplitr
      swap; · iexact H3
      ipureintro
      intro h
      exact absurd (congrArg Fin.val h) (by decide))
    (hout := fun c => by
      rw [scopedRest0_eq, ownSems0_chain, show (dats m Good 0 c).Φ (Fin.last cfg0.N) = Φ m Good c (Fin.last cfg0.N) from rfl]; unfold Φ
      iintro ⟨Hr, Hp, Ho, Hx, ⟨%g, %hG, H3⟩⟩
      isplitl [Hp Hx H3]
      · isplitl [Hp]; · iexact Hp
        isplitl [Hx]; · iexact Hx
        iexists g
        isplitr; · ipureintro; exact hG rfl
        iexact H3
      isplitl [Ho]; · iexact Ho
      iexact Hr)
    (QY := fun c s => Kept (m := m) (Good := Good) c s)
    (hY := fun c s' => by
      iintro ⟨⟨-, Hx, ⟨%g, %hG, H3⟩⟩, ⟨H4, H5, H6⟩, HSI⟩
      icombine HSI Hx gives %ex
      icombine HSI H3 gives %e3
      icombine HSI H4 gives %e4
      icombine HSI H5 gives %e5
      icombine HSI H6 gives %e6
      imodintro
      isplitr
      · ipureintro
        exact ⟨Buf.eq_of_forall_mem_univ ex, Buf.eq_of_forall_mem_univ e4, Buf.eq_of_forall_mem_univ e5, Buf.eq_of_forall_mem_univ e6,
          by rw [Buf.eq_of_forall_mem_univ e3]; exact hG⟩
      · iexact HSI)
    (hQ := fun _ h hz => ⟨fun c => ⟨fun w => (h c).1 w, (h c).2⟩, hz⟩)

include hr hg in
/-- The run, read at the program's arrays: the seven arguments as launched, every semaphore at zero, the result `Good`. -/
theorem run_named : θ_run defs (onTc (τ := τ) (main (F := F))) ⟨m, fun _ => 0, ρ⟩ (fun r => (∀ c : Dev nD,
      Good c (r.2.mem ((c : Thread nD τ).loc main_v3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun _ h => ⟨fun c => ⟨(h.1 c).2.2.2.2.2,
    (h.1 c).2.1.trans (V_main_arg0 m c),
    ((h.1 c).1 0).trans (((dats m Good 0 c).arrAt_in 0 rfl _).trans ((A_eq m Good c 0).trans (V_main_arg1 m c))),
    ((h.1 c).1 1).trans (((dats m Good 0 c).arrAt_in 1 rfl _).trans ((A_eq m Good c 1).trans (V_main_arg2 m c))),
    ((h.1 c).1 2).trans (((dats m Good 0 c).arrAt_in 2 rfl _).trans ((A_eq m Good c 2).trans (V_main_arg3 m c))),
    (h.1 c).2.2.1.trans (V_main_arg4 m c), (h.1 c).2.2.2.1.trans (V_main_arg5 m c), (h.1 c).2.2.2.2.1.trans (V_main_arg6 m c)⟩, h.2⟩)
    (run_main ρ hr hg)

end Cert.KernelIdeal.Hand

end
-- ==== Proof.Frames.lean ====
/-
  The frames: each program ends, faults nowhere, leaves its seven argument arrays as they were and every semaphore at zero.
  For the kernel this needs the task ids to name rows of the table, which the precondition says.
-/
module

public import proofs.«01_k».proof.Defs
public import proofs.«01_k».proof.Proof.Pre
public import proofs.«01_k».proof.Proof.Launch
public import proofs.«01_k».proof.Proof.Gen.Kernel
public import proofs.«01_k».proof.Proof.Gen.ReferenceIdeal.Run
public import Idealize.ShloMosaic.Lib.Claim

@[expose] public section

set_option maxRecDepth 100000

noncomputable section

namespace Cert.Frames

open Idealize.ShloMosaic Idealize.ShloMosaic.TcCoe Idealize.SL.Sem
open Cert.KernelIdeal.Hand (InRange run_named)

/-! ## The kernel as printed and the kernel for the exact reading are one program

  No operation was rewritten between the two, so their bodies, tables of bodies and mains are equal, and a run of one is a run
  of the other. -/

variable {F : FTy → Type} [FloatOps F]

/-- The two programs' tables of kernel bodies agree, label by label. -/
theorem bodies_eq : Cert.Kernel.defs₀ (F := F) = Cert.KernelIdeal.defs₀ (F := F) := by
  funext p
  cases p with
  | tc =>
    funext l a
    match l, a with
    | ⟨0, _⟩, (_, _) => rfl
  | scScalar _ => rfl
  | scVector _ _ => rfl

/-- Hence so do the tables with the pipelines added. -/
theorem defs_eq : Cert.Kernel.defs (F := F) = Cert.KernelIdeal.defs (F := F) :=
  congrArg (Pipeline.defs (Cert.KernelIdeal.pcfgs (F := F))) bodies_eq

/-- And the two mains. -/
theorem main_eq : Cert.Kernel.main (F := F) = Cert.KernelIdeal.main (F := F) := rfl

/-! ## The kernel's frame, at any float values -/

/-- The kernel's run at any float values, from a memory whose task ids are in range. -/
theorem kernel (m : (ℓ : Loc Cert.KernelIdeal.nD Cert.KernelIdeal.τ Cert.KernelIdeal.sig) → Buf (Elt F) ℓ)
    (ρ : Dev Cert.KernelIdeal.nD → PrngReg) (hr : InRange m) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m (c.tc.loc Cert.KernelIdeal.main_arg0)
        ∧ r.2.mem ((c.tc : Thread Cert.KernelIdeal.nD Cert.KernelIdeal.τ).loc Cert.KernelIdeal.main_arg1) = m (c.tc.loc Cert.KernelIdeal.main_arg1)
        ∧ r.2.mem ((c.tc : Thread Cert.KernelIdeal.nD Cert.KernelIdeal.τ).loc Cert.KernelIdeal.main_arg2) = m (c.tc.loc Cert.KernelIdeal.main_arg2)
        ∧ r.2.mem ((c.tc : Thread Cert.KernelIdeal.nD Cert.KernelIdeal.τ).loc Cert.KernelIdeal.main_arg3) = m (c.tc.loc Cert.KernelIdeal.main_arg3)
        ∧ r.2.mem ((c.tc : Thread Cert.KernelIdeal.nD Cert.KernelIdeal.τ).loc Cert.KernelIdeal.main_arg4) = m (c.tc.loc Cert.KernelIdeal.main_arg4)
        ∧ r.2.mem ((c.tc : Thread Cert.KernelIdeal.nD Cert.KernelIdeal.τ).loc Cert.KernelIdeal.main_arg5) = m (c.tc.loc Cert.KernelIdeal.main_arg5)
        ∧ r.2.mem ((c.tc : Thread Cert.KernelIdeal.nD Cert.KernelIdeal.τ).loc Cert.KernelIdeal.main_arg6) = m (c.tc.loc Cert.KernelIdeal.main_arg6))
        ∧ r.2.sem = fun _ => 0) :=
  (θ_run Cert.KernelIdeal.defs _ _).mono (fun _ h => ⟨fun c => (h.1 c).2, h.2⟩)
    (run_named (Good := fun _ _ => True) ρ hr (by unfold Cert.KernelIdeal.Hand.GoodRun; intros; trivial))

/-- Task ids that pass the range check are in range for the launch. -/
theorem inRange (m : (ℓ : Loc Cert.KernelIdeal.nD Cert.KernelIdeal.τ Cert.KernelIdeal.sig) → Buf (Elt F) ℓ)
    (h : ∀ c : Dev Cert.KernelIdeal.nD, Cert.Pre_task_ids_in_range.fn (F := F)
      (m ((c.tc : Thread Cert.KernelIdeal.nD Cert.KernelIdeal.τ).loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) = fun _ => 1#1) : InRange m :=
  fun c b => Cert.Pre.ids_lt _ _ _ _ _ _ _ (h c) (ix1 b)

/-- What the value claim's precondition gives the launch. -/
theorem inRange_of_finite (m : (ℓ : Loc Cert.KernelIdeal.nD Cert.KernelIdeal.τ Cert.KernelIdeal.sig) → Buf (Elt Ideal) ℓ)
    (h : Cert.Pre_KernelIdeal_finite_and_in_range m) : InRange (F := Ideal) m :=
  fun c b => (Cert.Pre.finite _ _ _ _ _ _ _ (h c)).1 (ix1 b)

/-! ## The claims -/

/-- The kernel as printed, on words. -/
theorem printed : Cert.quiescent_Kernel := by
  intro m ρ h
  rw [defs_eq, main_eq]
  exact kernel (F := Bits) m ρ (inRange (F := Bits) m h)

/-- The kernel on the extended reals. -/
theorem ideal : Cert.quiescent_KernelIdeal := fun m ρ h => kernel (F := Ideal) m ρ (inRange (F := Ideal) m h)

/-- The kernel on the extended reals, under the value claim's precondition. -/
theorem ideal_finite : Cert.quiescent_KernelIdeal_pre_finite_and_in_range :=
  fun m ρ h => kernel (F := Ideal) m ρ (inRange_of_finite m h)

/-- The reference, from any memory: it declares no semaphore. -/
theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference under the value claim's precondition. -/
theorem reference_finite : Cert.quiescent_ReferenceIdeal_pre_finite_and_in_range := fun m ρ _ => reference m ρ trivial

end Cert.Frames

end
-- ==== Proof.Rows.lean ====
/-
  Windows of 512 rows of a stack of [2048, 1024] matrices: the windows the kernel's copies name, read and written. A
  window is the stack sliced at ![b, r, 0] with sizes [1, 512, 1024] and the unit axis dropped. The lemmas say what a window
  reads after another one was written, and where in the stack its entries lie; they hold of any stack and any values.
-/
module

public import Idealize.ShloMosaic.Lib.Tactic
public import Idealize.ShloMosaic.Lib.Pointwise
public import Idealize.ShloMosaic.Lib.ValueLayout
public import Idealize.ShloMosaic.Lib.WritesUnit

@[expose] public section

set_option maxRecDepth 16384

noncomputable section

namespace Cert.Rows

open Idealize.ShloMosaic Idealize.ShloMosaic.TcCoe Idealize.SL.Sem

/-- A stack of `n` matrices of 2048 rows. -/
abbrev Stack (n : ℕ) : Shape := ⟨3, ![n, 2048, 1024]⟩
/-- A window's shape with its unit axis, and without; a half matrix with a unit axis. -/
abbrev Win1 : Shape := ⟨3, ![1, 512, 1024]⟩
abbrev Win : Shape := ⟨2, ![512, 1024]⟩
abbrev Half1 : Shape := ⟨3, ![1, 1024, 1024]⟩

variable {sig : RefSig} {κ : Kind} {sp : Space} {e : EltTy} {Val : EltTy → Type} {n : ℕ}

/-- The window of 512 rows of matrix `b` from row `r`. -/
abbrev win (M : Memref sig κ sp (Stack n) e) (b r : ℕ) (inb : ∀ a, (![b, r, 0] : Fin 3 → ℕ) a + Win1.size a ≤ (Stack n).size a)
    (hr : ∀ a, (Rect.unit (s := Stack n) ![b, r, 0] Win1.size inb).stride a = 1)
    (hq : (Rect.unit (s := Stack n) ![b, r, 0] Win1.size inb).shape.Squeezes Win) : View sig κ sp Win e :=
  ((M.slice (Rect.unit (s := Stack n) ![b, r, 0] Win1.size inb) hr).squeeze Win hq).view

variable (M : Memref sig κ sp (Stack n) e)

/-- Entry (i, o) of the window is entry (b, r + i, o) of the stack. -/
theorem read_win {b r : ℕ} (inb) (hr) (hq) (f : M.view.ty.Contents Val) (i : Fin 512) (o : Fin 1024) (z : (Stack n).Idx)
    (h0 : (z 0).val = b) (h1 : (z 1).val = r + i.val) (h2 : (z 2).val = o.val) :
    (win M b r inb hr hq).read Val f (ix2 i o) = M.view.read Val f z := by
  show M.view.read Val f ((Rect.unit (s := Stack n) ![b, r, 0] Win1.size inb).emb (Shape.reshapeEquiv hq.numel_eq (ix2 i o))) = _
  refine congrArg _ ?_
  have e : Shape.reshapeEquiv hq.numel_eq (ix2 i o : Win.Idx) = (ix3 (⟨0, Nat.one_pos⟩ : Fin 1) i o : Win1.Idx) :=
    ValueIdx.reshapeEquiv_ix2_1ab hq.numel_eq i o
  rw [e]
  funext a
  refine Fin.ext ?_
  match a with
  | ⟨0, _⟩ => show b + 1 * 0 = (z 0).val; omega
  | ⟨1, _⟩ => show r + 1 * i.val = (z 1).val; omega
  | ⟨2, _⟩ => show 0 + 1 * o.val = (z 2).val; omega

/-- A window is not changed by a write through a window of another matrix, or of rows apart. -/
theorem read_write_win_ne {b r b' r' : ℕ} (h : b ≠ b' ∨ r + 512 ≤ r' ∨ r' + 512 ≤ r) (inb) (hr) (hq) (inb') (hr') (hq')
    (f : M.view.ty.Contents Val) (w : Win.Idx → Val e) :
    (win M b r inb hr hq).read Val ((win M b' r' inb' hr' hq').write Val f w Finset.univ) = (win M b r inb hr hq).read Val f := by
  refine View.read_congr fun j hj => View.write_of_not_mem _ _ _ fun hj' => ?_
  obtain ⟨y, -, rfl⟩ := Finset.mem_map.mp hj
  obtain ⟨y', -, hy'⟩ := Finset.mem_map.mp hj'
  have e : (Rect.unit (s := Stack n) ![b', r', 0] Win1.size inb').emb (Shape.reshapeEquiv hq'.numel_eq y')
      = (Rect.unit (s := Stack n) ![b, r, 0] Win1.size inb).emb (Shape.reshapeEquiv hq.numel_eq y) := M.view.emb.injective hy'
  have e0 : b' + 1 * (Shape.reshapeEquiv hq'.numel_eq y' 0).val = b + 1 * (Shape.reshapeEquiv hq.numel_eq y 0).val :=
    congrArg (fun z => (z 0).val) e
  have e1 : r' + 1 * (Shape.reshapeEquiv hq'.numel_eq y' 1).val = r + 1 * (Shape.reshapeEquiv hq.numel_eq y 1).val :=
    congrArg (fun z => (z 1).val) e
  have l0 : (Shape.reshapeEquiv hq'.numel_eq y' 0).val < 1 := (Shape.reshapeEquiv hq'.numel_eq y' 0).isLt
  have l0' : (Shape.reshapeEquiv hq.numel_eq y 0).val < 1 := (Shape.reshapeEquiv hq.numel_eq y 0).isLt
  have l1 : (Shape.reshapeEquiv hq'.numel_eq y' 1).val < 512 := (Shape.reshapeEquiv hq'.numel_eq y' 1).isLt
  have l1' : (Shape.reshapeEquiv hq.numel_eq y 1).val < 512 := (Shape.reshapeEquiv hq.numel_eq y 1).isLt
  omega

/-- What a load of 1024 rows reads at row `d + i` is what the window `d` rows further reads at row `i`. -/
theorem readAt_half {b r₀ d r : ℕ} (hd : r₀ + d = r) (inb₀ : ∀ a, (![b, r₀, 0] : Fin 3 → ℕ) a + Half1.size a ≤ (Stack n).size a)
    (inb) (hr) (hq) (f : M.view.ty.Contents Val) (i : Fin 512) (o : Fin 1024) (hi : d + i.val < 1024) :
    View.readAt Val M.view (Rect.unit (s := Stack n) ![b, r₀, 0] Half1.size inb₀).toLoadRect f (ix3 (0 : Fin 1) ⟨d + i.val, hi⟩ o : Half1.Idx)
      = (win M b r inb hr hq).read Val f (ix2 i o) := by
  refine (read_win M inb hr hq f i o _ ?_ ?_ ?_).symm
  · show b + 1 * 0 = b; omega
  · show r₀ + 1 * (d + i.val) = r + i.val; omega
  · show 0 + 1 * o.val = o.val; omega

/-- A window inside the 1024 rows just stored reads the stored value, `d` rows further. -/
theorem read_win_writes {b r₀ d r : ℕ} (hd : r₀ + d = r) (inb₀ : ∀ a, (![b, r₀, 0] : Fin 3 → ℕ) a + Half1.size a ≤ (Stack n).size a)
    (inb) (hr) (hq) (f : M.view.ty.Contents Val) (w : (Rect.unit (s := Stack n) ![b, r₀, 0] Half1.size inb₀).shape.Idx → Val e)
    (L : List (View.Piece Val (Stack n) e)) (i : Fin 512) (o : Fin 1024) (hi : d + i.val < 1024) :
    (win M b r inb hr hq).read Val (M.view.writes Val f (⟨Rect.unit (s := Stack n) ![b, r₀, 0] Half1.size inb₀, w⟩ :: L)) (ix2 i o)
      = w (ix3 (0 : Fin 1) ⟨d + i.val, hi⟩ o : Half1.Idx) := by
  have hb : b < n := by have := inb 0; exact Nat.lt_of_succ_le this
  have hr2 : r + i.val < 2048 := by have h1 : r + 512 ≤ 2048 := inb 1; have := i.isLt; omega
  rw [read_win M inb hr hq _ i o (ix3 (⟨b, hb⟩ : Fin n) (⟨r + i.val, hr2⟩ : Fin 2048) o) rfl rfl rfl]
  refine View.read_writes_cons_unit_of_mem _ _ inb₀ w L _ _ rfl fun a => ?_
  match a with
  | ⟨0, _⟩ => rfl
  | ⟨1, _⟩ => show r + i.val = r₀ + (d + i.val); omega
  | ⟨2, _⟩ => show o.val = 0 + o.val; omega

end Cert.Rows

end
-- ==== Proof.Stored.lean ====
/-
  What the body's run leaves in the result, as a function of what it found (`Proof/Body.lean` is the run): entry (b, s, o)
  is row s of example b's tokens against row o of that example's effective weight, plus the bias. The four examples and
  their two chunks of 1024 rows are instances of the same definitions, whatever the numbers are.
-/
module

public import proofs.«01_k».proof.Proof.Ids
public import proofs.«01_k».proof.Proof.Rows
public import Idealize.ShloMosaic.Lib.VecWindow

@[expose] public section

set_option maxRecDepth 16384

noncomputable section

namespace Cert.KernelIdeal.Hand

open Idealize.ShloMosaic Idealize.ShloMosaic.TcCoe Idealize.SL.Sem
open Cert.KernelIdeal.Gen Cert.Rows

variable {F : FTy → Type} [FloatOps F]

/-! ## The values, as functions of the operands -/

/-- The logistic function of one logit. -/
def sigm (t : F .f32) : F .f32 :=
  Scalar.divf (Scalar.ofBits .f32 0x3F800000#32)
    (Scalar.addf (Scalar.ofBits .f32 0x3F800000#32) (Scalar.exp (Scalar.subf (Scalar.ofBits .f32 0x00000000#32) t)))

/-- The reciprocal of the eight logistic values' sum, guarded against zero. -/
def recip (t : Fin 8 → F .f32) : F .f32 :=
  Scalar.divf (Scalar.ofBits .f32 0x3F800000#32)
    (Scalar.addf (Scalar.addf (Scalar.addf (Scalar.addf (Scalar.addf (Scalar.addf (Scalar.addf (Scalar.addf
      (sigm (t 0)) (sigm (t 1))) (sigm (t 2))) (sigm (t 3))) (sigm (t 4))) (sigm (t 5))) (sigm (t 6))) (sigm (t 7)))
      (Scalar.ofBits .f32 0x2B8CBCCC#32))

/-- The weight of skill `k`. -/
def mixWt (t : Fin 8 → F .f32) (k : Fin 8) : F .f32 := Scalar.mulf (sigm (t k)) (recip t)

/-- Eight matrices mixed by eight numbers. -/
def mix {s : Shape} (p : Fin 8 → FVec F s .f32) (w : Fin 8 → F .f32) : FVec F s .f32 :=
  addf (addf (addf (addf (addf (addf (addf (mulf (p 0) (broadcast s (w 0))) (mulf (p 1) (broadcast s (w 1))))
    (mulf (p 2) (broadcast s (w 2)))) (mulf (p 3) (broadcast s (w 3)))) (mulf (p 4) (broadcast s (w 4))))
    (mulf (p 5) (broadcast s (w 5)))) (mulf (p 6) (broadcast s (w 6)))) (mulf (p 7) (broadcast s (w 7)))

theorem inbA (k : Fin 8) : ∀ a, (![k.val, 0, 0] : Fin 3 → ℕ) a + S1x1024x16.size a ≤ S8x1024x16.size a := by
  intro a; have := k.isLt
  match a with
  | ⟨0, _⟩ => show k.val + 1 ≤ 8; omega
  | ⟨1, _⟩ => exact Nat.le_refl _
  | ⟨2, _⟩ => exact Nat.le_refl _

theorem inbB (k : Fin 8) : ∀ a, (![k.val, 0, 0] : Fin 3 → ℕ) a + S1x16x1024.size a ≤ S8x16x1024.size a := by
  intro a; have := k.isLt
  match a with
  | ⟨0, _⟩ => show k.val + 1 ≤ 8; omega
  | ⟨1, _⟩ => exact Nat.le_refl _
  | ⟨2, _⟩ => exact Nat.le_refl _

/-- Skill `k`'s two low-rank factors. -/
def facA (la : Vec F S8x1024x16 .f32) (k : Fin 8) : FVec F S1024x16 .f32 :=
  shapeCast S1024x16 (VecWindow.window la ![k.val, 0, 0] S1x1024x16.size (inbA k) : Vec F S1x1024x16 .f32) shapeCasts_S1x1024x16_S1024x16
def facB (lb : Vec F S8x16x1024 .f32) (k : Fin 8) : FVec F S16x1024 .f32 :=
  shapeCast S16x1024 (VecWindow.window lb ![k.val, 0, 0] S1x16x1024.size (inbB k) : Vec F S1x16x1024 .f32) shapeCasts_S1x16x1024_S16x1024

/-- The effective weight of an example with logits `t`: the frozen weight plus a sixteenth of the product of the two mixed factors. -/
def weff (t : Fin 8 → F .f32) (la : Vec F S8x1024x16 .f32) (lb : Vec F S8x16x1024 .f32) (w : Vec F S1024x1024 .f32) : FVec F S1024x1024 .f32 :=
  shapeCast S1024x1024 (addf w (mulf
    (matmul dot_S16x1024_S1024x16_S1024x1024_0_1_1_0_n_n none (mix (facB lb) (mixWt t)) (mix (facA la) (mixWt t))
      (constant S1024x1024 .f32 0x00000000#32))
    (broadcast S1024x1024 (Scalar.ofBits .f32 0x3D800000#32)))) shapeCasts_S1024x1024_S1024x1024

/-- A chunk of 1024 rows of the result, from the chunk of the tokens, the effective weight and the bias. -/
def chunk (x : Vec F S1x1024x1024 .f32) (wf : Vec F S1024x1024 .f32) (bias : Vec F S1x1024 .f32) : FVec F S1x1024x1024 .f32 :=
  shapeCast S1x1024x1024 (addf
    (matmul dot_S1024x1024_S1024x1024_S1024x1024_1_1_0_0_n_n none (shapeCast S1024x1024 x shapeCasts_S1x1024x1024_S1024x1024) wf
      (constant S1024x1024 .f32 0x00000000#32))
    (broadcastTo S1024x1024 (shapeCast S1x1024 bias shapeCasts_S1x1024_S1x1024) broadcasts_S1x1024_S1024x1024))
    shapeCasts_S1024x1024_S1x1024x1024

/-- The 1024 rows of example `b` from row `r`. -/
def half (x : Vec F S4x2048x1024 .f32) (b : Fin 4) (r : ℕ) (hr : r + 1024 ≤ 2048) : Vec F S1x1024x1024 .f32 :=
  fun j => x (ix3 b (⟨r + (j 1).val, by have : (j 1).val < 1024 := (j 1).isLt; omega⟩ : Fin 2048) (j 2) : S4x2048x1024.Idx)

/-- The table row a task id names. -/
abbrev rowOf (v : BitVec 32) : Fin 16 := ⟨v.toNat % 16, Nat.mod_lt _ (by decide)⟩

/-- The eight logits of example `b`: the row of the table its task id names. -/
def logits (ids : Vec F S4 .i32) (tab : Vec F S16x8 .f32) (b : Fin 4) (k : Fin 8) : F .f32 :=
  tab (ix2 (rowOf (ids (ix1 b : S4.Idx))) k : S16x8.Idx)

/-- THE RESULT: the chunk of each entry's example and row, at that row. -/
def result (ids : Vec F S4 .i32) (tab : Vec F S16x8 .f32) (x : Vec F S4x2048x1024 .f32) (w : Vec F S1024x1024 .f32)
    (bias : Vec F S1x1024 .f32) (la : Vec F S8x1024x16 .f32) (lb : Vec F S8x16x1024 .f32) : Vec F S4x2048x1024 .f32 :=
  fun z => chunk (half x (z 0) ((z 1).val / 1024 * 1024) (by have : (z 1).val < 2048 := (z 1).isLt; omega))
    (weff (logits ids tab (z 0)) la lb w) bias
    (ix3 (0 : Fin 1) (⟨(z 1).val % 1024, Nat.mod_lt _ (by decide)⟩ : Fin 1024) (z 2) : S1x1024x1024.Idx)

/-! ## The run's named values are these functions -/

theorem inbT (v : BitVec 32) (hv : v.toNat < 16) (k : Fin 8) : ∀ a, (![v.toNat, k.val] : Fin 2 → ℕ) a + S1x1.size a ≤ S16x8.size a := by
  intro a; have := k.isLt
  match a with
  | ⟨0, _⟩ => show v.toNat + 1 ≤ 16; omega
  | ⟨1, _⟩ => show k.val + 1 ≤ 8; omega

/-- Entry (v, k) of the table, as the body's load of it is stated. -/
def entryT (tab : Vec F S16x8 .f32) (v : BitVec 32) (hv : v.toNat < 16) (k : Fin 8) : F .f32 :=
  tab ((Rect.unit (s := S16x8) ![v.toNat, k.val] S1x1.size (inbT v hv k)).emb (Shape.Idx.first (s := S1x1) (by decide)))

theorem entryT_eq (tab : Vec F S16x8 .f32) (v : BitVec 32) (hv : v.toNat < 16) :
    entryT tab v hv = fun k => tab (ix2 (rowOf v) k : S16x8.Idx) := by
  funext k
  refine congrArg tab (funext fun a => Fin.ext ?_)
  match a with
  | ⟨0, _⟩ => show v.toNat + 1 * 0 = v.toNat % 16; omega
  | ⟨1, _⟩ => show k.val + 1 * 0 = k.val; omega

theorem logits_eq (c : Dev nD) (arg0 : Memref sig .tc .smem S4 .i32) (f0 : MBuf (F := F) c arg0) (b : Fin 4)
    (inb : ∀ a, (![b.val] : Fin 1 → ℕ) a + S1.size a ≤ S4.size a) (tab : Vec F S16x8 .f32) (hv : (word c arg0 f0 ![b.val] inb).toNat < 16) :
    entryT tab (word c arg0 f0 ![b.val] inb) hv = logits (arg0.view.read (Elt F) f0) tab b := by
  rw [entryT_eq]
  unfold logits
  rw [word_eq]

/-- The window of a stack at literal places, its side facts settled once. -/
theorem winInb {n b r : ℕ} (hb : b < n) (hr : r + 512 ≤ 2048) : ∀ a, (![b, r, 0] : Fin 3 → ℕ) a + Win1.size a ≤ (Stack n).size a := by
  intro a
  match a with
  | ⟨0, _⟩ => exact hb
  | ⟨1, _⟩ => exact hr
  | ⟨2, _⟩ => exact Nat.le_refl _
abbrev winAt {n : ℕ} {sp : Space} (M : Memref sig .tc sp (Stack n) .f32) (b r : ℕ) (hb : b < n) (hr : r + 512 ≤ 2048) : View sig .tc sp Win .f32 :=
  win M b r (winInb hb hr) (fun _ => rfl) squeezes_S1x512x1024_S512x1024

/-- A load of 1024 rows of the token buffer, the two windows of which hold the rows of example `b` from row `r₀`, reads
    those rows. -/
theorem half_eq (b : Fin 4) (s r₀ r₁ : ℕ) (hs : s < 2) (h₀ : r₀ + 512 ≤ 2048) (h₁ : r₁ + 512 ≤ 2048) (hr : r₀ + 512 = r₁)
    (inb : ∀ a, (![s, r₀, 0] : Fin 3 → ℕ) a + Half1.size a ≤ (Stack 2).size a)
    (f : xbM.view.ty.Contents (Elt F)) (fx : Vec F S4x2048x1024 .f32)
    (e₀ : (winAt xbM s r₀ hs h₀).read (Elt F) f = (winAt xM b.val r₀ b.isLt h₀).read (Elt F) fx)
    (e₁ : (winAt xbM s r₁ hs h₁).read (Elt F) f = (winAt xM b.val r₁ b.isLt h₁).read (Elt F) fx) :
    View.readAt (Elt F) xbM.view (Rect.unit (s := Stack 2) ![s, r₀, 0] Half1.size inb).toLoadRect f = half fx b r₀ (by omega) := by
  funext j
  obtain ⟨j0, j1, j2, rfl⟩ : ∃ (j0 : Fin 1) (j1 j2 : Fin 1024), j = (ix3 j0 j1 j2 : Half1.Idx) := ⟨j 0, j 1, j 2, eq_ix3 j⟩
  obtain rfl : j0 = 0 := Subsingleton.elim _ _
  by_cases hj : j1.val < 512
  · have e := readAt_half xbM (d := 0) (Nat.add_zero r₀) inb (winInb hs h₀) (fun _ => rfl) squeezes_S1x512x1024_S512x1024 f ⟨j1.val, hj⟩ j2 (by have := j1.isLt; omega)
    simp only [Nat.zero_add] at e
    refine e.trans ((congrFun e₀ _).trans ?_)
    exact read_win xM (winInb b.isLt h₀) (fun _ => rfl) squeezes_S1x512x1024_S512x1024 fx ⟨j1.val, hj⟩ j2 _ rfl rfl rfl
  · have hj1 : j1.val - 512 < 512 := by have := j1.isLt; omega
    have e := readAt_half xbM (d := 512) hr inb (winInb hs h₁) (fun _ => rfl) squeezes_S1x512x1024_S512x1024 f ⟨j1.val - 512, hj1⟩ j2 (by have := j1.isLt; omega)
    have ej : (⟨512 + (j1.val - 512), by have := j1.isLt; omega⟩ : Fin 1024) = j1 := Fin.ext (by show 512 + (j1.val - 512) = j1.val; omega)
    rw [ej] at e
    refine e.trans ((congrFun e₁ _).trans ?_)
    exact read_win xM (winInb b.isLt h₁) (fun _ => rfl) squeezes_S1x512x1024_S512x1024 fx ⟨j1.val - 512, hj1⟩ j2 _ rfl
      (by show r₀ + j1.val = r₁ + (j1.val - 512); omega) rfl

/-- The rows of example `b` from row `r₀`, both windows of which were copied from the result buffer just after the chunk `P` was
    stored there, are that chunk's. -/
theorem stored_eq (b : Fin 4) (s r₀ r₁ : ℕ) (hs : s < 2) (h₀ : r₀ + 512 ≤ 2048) (h₁ : r₁ + 512 ≤ 2048) (hr : r₀ + 512 = r₁)
    (inb : ∀ a, (![s, r₀, 0] : Fin 3 → ℕ) a + Half1.size a ≤ (Stack 2).size a)
    (g : Vec F S4x2048x1024 .f32) (f : obM.view.ty.Contents (Elt F)) (P : Vec F S1x1024x1024 .f32) (L : List (View.Piece (Elt F) S2x2048x1024 .f32))
    (e₀ : (winAt oM b.val r₀ b.isLt h₀).read (Elt F) g
      = (winAt obM s r₀ hs h₀).read (Elt F) (obM.view.writes (Elt F) f (⟨Rect.unit (s := Stack 2) ![s, r₀, 0] Half1.size inb, P⟩ :: L)))
    (e₁ : (winAt oM b.val r₁ b.isLt h₁).read (Elt F) g
      = (winAt obM s r₁ hs h₁).read (Elt F) (obM.view.writes (Elt F) f (⟨Rect.unit (s := Stack 2) ![s, r₀, 0] Half1.size inb, P⟩ :: L)))
    (j : Fin 1024) (o : Fin 1024) :
    g (ix3 b (⟨r₀ + j.val, by have := j.isLt; omega⟩ : Fin 2048) o : S4x2048x1024.Idx) = P (ix3 (0 : Fin 1) j o : S1x1024x1024.Idx) := by
  by_cases hj : j.val < 512
  · have e := read_win_writes obM (d := 0) (Nat.add_zero r₀) inb (winInb hs h₀) (fun _ => rfl) squeezes_S1x512x1024_S512x1024 f P L ⟨j.val, hj⟩ o (by have := j.isLt; omega)
    simp only [Nat.zero_add] at e
    refine Eq.trans ?_ ((congrFun e₀ _).trans e)
    exact (read_win oM (winInb b.isLt h₀) (fun _ => rfl) squeezes_S1x512x1024_S512x1024 g ⟨j.val, hj⟩ o _ rfl rfl rfl).symm
  · have hj1 : j.val - 512 < 512 := by have := j.isLt; omega
    have e := read_win_writes obM (d := 512) hr inb (winInb hs h₁) (fun _ => rfl) squeezes_S1x512x1024_S512x1024 f P L ⟨j.val - 512, hj1⟩ o (by have := j.isLt; omega)
    have ej : (⟨512 + (j.val - 512), by have := j.isLt; omega⟩ : Fin 1024) = j := Fin.ext (by show 512 + (j.val - 512) = j.val; omega)
    rw [ej] at e
    refine Eq.trans ?_ ((congrFun e₁ _).trans e)
    exact (read_win oM (winInb b.isLt h₁) (fun _ => rfl) squeezes_S1x512x1024_S512x1024 g ⟨j.val - 512, hj1⟩ o _ rfl
      (by show r₀ + j.val = r₁ + (j.val - 512); omega) rfl).symm

theorem chunk_at (x : Vec F S4x2048x1024 .f32) (b : Fin 4) (W : FVec F S1024x1024 .f32) (B : Vec F S1x1024 .f32) (o : Fin 1024)
    {r r' : ℕ} {h h'} {j j' : Fin 1024} (hr : r = r') (hj : j = j') :
    chunk (half x b r h) W B (ix3 (0 : Fin 1) j o : S1x1024x1024.Idx) = chunk (half x b r' h') W B (ix3 (0 : Fin 1) j' o : S1x1024x1024.Idx) := by
  subst hr hj; rfl

/-- A buffer whose every chunk of 1024 rows is `chunk` of that chunk's tokens and that example's effective weight is the result. -/
theorem eq_result (ids : Vec F S4 .i32) (tab : Vec F S16x8 .f32) (x : Vec F S4x2048x1024 .f32) (w : Vec F S1024x1024 .f32)
    (bias : Vec F S1x1024 .f32) (la : Vec F S8x1024x16 .f32) (lb : Vec F S8x16x1024 .f32) (g : Vec F S4x2048x1024 .f32)
    (h₀ : ∀ (b : Fin 4) (j o : Fin 1024), g (ix3 b (⟨0 + j.val, by have := j.isLt; omega⟩ : Fin 2048) o : S4x2048x1024.Idx)
      = chunk (half x b 0 (by decide)) (weff (logits ids tab b) la lb w) bias (ix3 (0 : Fin 1) j o : S1x1024x1024.Idx))
    (h₁ : ∀ (b : Fin 4) (j o : Fin 1024), g (ix3 b (⟨1024 + j.val, by have := j.isLt; omega⟩ : Fin 2048) o : S4x2048x1024.Idx)
      = chunk (half x b 1024 (by decide)) (weff (logits ids tab b) la lb w) bias (ix3 (0 : Fin 1) j o : S1x1024x1024.Idx)) :
    g = result ids tab x w bias la lb := by
  funext z
  obtain ⟨b, t, o, rfl⟩ : ∃ (b : Fin 4) (t : Fin 2048) (o : Fin 1024), z = (ix3 b t o : S4x2048x1024.Idx) := ⟨z 0, z 1, z 2, eq_ix3 z⟩
  have ht := t.isLt
  by_cases hj : t.val < 1024
  · have e := h₀ b ⟨t.val, hj⟩ o
    have et : (⟨0 + t.val, by omega⟩ : Fin 2048) = t := Fin.ext (Nat.zero_add _)
    rw [show (⟨0 + (⟨t.val, hj⟩ : Fin 1024).val, by omega⟩ : Fin 2048) = t from et] at e
    rw [e]
    show chunk _ _ _ _ = chunk (half x b (t.val / 1024 * 1024) _) _ _ (ix3 (0 : Fin 1) (⟨t.val % 1024, _⟩ : Fin 1024) o)
    exact chunk_at _ _ _ _ _ (by omega) (Fin.ext (Nat.mod_eq_of_lt hj).symm)
  · have e := h₁ b ⟨t.val - 1024, by omega⟩ o
    have et : (⟨1024 + (t.val - 1024), by omega⟩ : Fin 2048) = t := Fin.ext (by show 1024 + (t.val - 1024) = t.val; omega)
    rw [show (⟨1024 + (⟨t.val - 1024, by omega⟩ : Fin 1024).val, by omega⟩ : Fin 2048) = t from et] at e
    rw [e]
    show chunk _ _ _ _ = chunk (half x b (t.val / 1024 * 1024) _) _ _ (ix3 (0 : Fin 1) (⟨t.val % 1024, _⟩ : Fin 1024) o)
    exact chunk_at _ _ _ _ _ (by omega) (Fin.ext (by show t.val - 1024 = t.val % 1024; omega))

variable (c : Dev nD)
    (arg0 : Memref sig .tc .smem S4 .i32) (harg0 : arg0.IsWhole) (arg1 : Memref sig .tc .smem S16x8 .f32) (harg1 : arg1.IsWhole)
    (arg3 : Memref sig .tc .vmem S1024x1024 .f32) (harg3 : arg3.IsWhole) (arg4 : Memref sig .tc .vmem S1x1024 .f32) (harg4 : arg4.IsWhole)
    (arg5 : Memref sig .tc .vmem S8x1024x16 .f32) (harg5 : arg5.IsWhole) (arg6 : Memref sig .tc .vmem S8x16x1024 .f32) (harg6 : arg6.IsWhole)
    (f0 : MBuf (F := F) c arg0) (f1 : MBuf (F := F) c arg1) (f3 : MBuf (F := F) c arg3) (f4 : MBuf (F := F) c arg4)
    (f5 : MBuf (F := F) c arg5) (f6 : MBuf (F := F) c arg6) (fx : MBuf (F := F) c xM) (fo : MBuf (F := F) c oM)
    (fxb : MBuf (F := F) c xbM) (fob : MBuf (F := F) c obM) (fwf : MBuf (F := F) c wfM)
    (h1 : k0_chk1 (word c arg0 f0 ![0] inb_S4_S1_0))
    (h2 : k0_chk2 (word c arg0 f0 ![1] inb_S4_S1_1))
    (h3 : k0_chk3 (word c arg0 f0 ![2] inb_S4_S1_2))
    (h4 : k0_chk4 (word c arg0 f0 ![3] inb_S4_S1_3))

/-- The effective weights, example by example. -/
theorem wf0 : bodyRun.sl.v214 c arg0 arg1 arg3 arg5 arg6 f0 f1 f3 f5 f6 h1
    = weff (logits (arg0.view.read (Elt F) f0) (arg1.view.read (Elt F) f1) 0) (arg5.view.read (Elt F) f5) (arg6.view.read (Elt F) f6) (arg3.view.read (Elt F) f3) := by
  unfold bodyRun.sl.v214 bodyRun.sl.Hwf_1
  rw [View.readCov_full, ← logits_eq c arg0 f0 0 inb_S4_S1_0 _ (lt_of_chk1 h1), View.readAt_full]
  rfl
theorem wf1 : bodyRun.sl.v460 c arg0 arg1 arg3 arg5 arg6 f0 f1 f3 f5 f6 h1 h2
    = weff (logits (arg0.view.read (Elt F) f0) (arg1.view.read (Elt F) f1) 1) (arg5.view.read (Elt F) f5) (arg6.view.read (Elt F) f6) (arg3.view.read (Elt F) f3) := by
  unfold bodyRun.sl.v460 bodyRun.sl.Hwf_2
  rw [View.readCov_full, ← logits_eq c arg0 f0 1 inb_S4_S1_1 _ (lt_of_chk2 h2), View.readAt_full]
  rfl
theorem wf2 : bodyRun.sl.v718 c arg0 arg1 arg3 arg5 arg6 f0 f1 f3 f5 f6 h1 h2 h3
    = weff (logits (arg0.view.read (Elt F) f0) (arg1.view.read (Elt F) f1) 2) (arg5.view.read (Elt F) f5) (arg6.view.read (Elt F) f6) (arg3.view.read (Elt F) f3) := by
  unfold bodyRun.sl.v718 bodyRun.sl.Hwf_3
  rw [View.readCov_full, ← logits_eq c arg0 f0 2 inb_S4_S1_2 _ (lt_of_chk3 h3), View.readAt_full]
  rfl
theorem wf3 : bodyRun.sl.v964 c arg0 arg1 arg3 arg5 arg6 f0 f1 f3 f5 f6 h1 h2 h3 h4
    = weff (logits (arg0.view.read (Elt F) f0) (arg1.view.read (Elt F) f1) 3) (arg5.view.read (Elt F) f5) (arg6.view.read (Elt F) f6) (arg3.view.read (Elt F) f3) := by
  unfold bodyRun.sl.v964 bodyRun.sl.Hwf_4
  rw [View.readCov_full, ← logits_eq c arg0 f0 3 inb_S4_S1_3 _ (lt_of_chk4 h4), View.readAt_full]
  rfl

/-- The loads of the tokens, chunk by chunk. -/
theorem x00 : bodyRun.sl.v212 c fx fxb = half fx 0 0 (by decide) := by
  unfold bodyRun.sl.v212
  refine half_eq 0 0 0 512 (by decide) (by decide) (by decide) rfl _ _ _ ?_ ?_
  · repeat refine (read_write_win_ne xbM (by decide) _ _ _ _ _ _ _ _).trans ?_
    exact View.read_write_univ _ _
  · repeat refine (read_write_win_ne xbM (by decide) _ _ _ _ _ _ _ _).trans ?_
    exact View.read_write_univ _ _
theorem x01 : bodyRun.sl.v247 c fx fxb = half fx 0 1024 (by decide) := by
  unfold bodyRun.sl.v247
  refine half_eq 0 0 1024 1536 (by decide) (by decide) (by decide) rfl _ _ _ ?_ ?_
  · repeat refine (read_write_win_ne xbM (by decide) _ _ _ _ _ _ _ _).trans ?_
    exact View.read_write_univ _ _
  · repeat refine (read_write_win_ne xbM (by decide) _ _ _ _ _ _ _ _).trans ?_
    exact View.read_write_univ _ _
theorem x10 : bodyRun.sl.v458 c fx fxb = half fx 1 0 (by decide) := by
  unfold bodyRun.sl.v458
  refine half_eq 1 1 0 512 (by decide) (by decide) (by decide) rfl _ _ _ ?_ ?_
  · repeat refine (read_write_win_ne xbM (by decide) _ _ _ _ _ _ _ _).trans ?_
    exact View.read_write_univ _ _
  · repeat refine (read_write_win_ne xbM (by decide) _ _ _ _ _ _ _ _).trans ?_
    exact View.read_write_univ _ _
theorem x11 : bodyRun.sl.v493 c fx fxb = half fx 1 1024 (by decide) := by
  unfold bodyRun.sl.v493
  refine half_eq 1 1 1024 1536 (by decide) (by decide) (by decide) rfl _ _ _ ?_ ?_
  · repeat refine (read_write_win_ne xbM (by decide) _ _ _ _ _ _ _ _).trans ?_
    exact View.read_write_univ _ _
  · repeat refine (read_write_win_ne xbM (by decide) _ _ _ _ _ _ _ _).trans ?_
    exact View.read_write_univ _ _
theorem x20 : bodyRun.sl.v716 c fx fxb = half fx 2 0 (by decide) := by
  unfold bodyRun.sl.v716
  refine half_eq 2 0 0 512 (by decide) (by decide) (by decide) rfl _ _ _ ?_ ?_
  · repeat refine (read_write_win_ne xbM (by decide) _ _ _ _ _ _ _ _).trans ?_
    exact View.read_write_univ _ _
  · repeat refine (read_write_win_ne xbM (by decide) _ _ _ _ _ _ _ _).trans ?_
    exact View.read_write_univ _ _
theorem x21 : bodyRun.sl.v763 c fx fxb = half fx 2 1024 (by decide) := by
  unfold bodyRun.sl.v763
  refine half_eq 2 0 1024 1536 (by decide) (by decide) (by decide) rfl _ _ _ ?_ ?_
  · repeat refine (read_write_win_ne xbM (by decide) _ _ _ _ _ _ _ _).trans ?_
    exact View.read_write_univ _ _
  · repeat refine (read_write_win_ne xbM (by decide) _ _ _ _ _ _ _ _).trans ?_
    exact View.read_write_univ _ _
theorem x30 : bodyRun.sl.v962 c fx fxb = half fx 3 0 (by decide) := by
  unfold bodyRun.sl.v962
  refine half_eq 3 1 0 512 (by decide) (by decide) (by decide) rfl _ _ _ ?_ ?_
  · repeat refine (read_write_win_ne xbM (by decide) _ _ _ _ _ _ _ _).trans ?_
    exact View.read_write_univ _ _
  · repeat refine (read_write_win_ne xbM (by decide) _ _ _ _ _ _ _ _).trans ?_
    exact View.read_write_univ _ _
theorem x31 : bodyRun.sl.v1009 c fx fxb = half fx 3 1024 (by decide) := by
  unfold bodyRun.sl.v1009
  refine half_eq 3 1 1024 1536 (by decide) (by decide) (by decide) rfl _ _ _ ?_ ?_
  · repeat refine (read_write_win_ne xbM (by decide) _ _ _ _ _ _ _ _).trans ?_
    exact View.read_write_univ _ _
  · repeat refine (read_write_win_ne xbM (by decide) _ _ _ _ _ _ _ _).trans ?_
    exact View.read_write_univ _ _

/-- What the run leaves in the result array, chunk by chunk. -/
theorem o00 (j o : Fin 1024) : ((bodyRun c arg0 harg0 arg1 harg1 arg3 harg3 arg4 harg4 arg5 harg5 arg6 harg6 f0 f1 f3 f4 f5 f6 fx fo fxb fob fwf h1 h2 h3 h4).1 : Vec F S4x2048x1024 .f32) (ix3 (0 : Fin 4) (⟨0 + j.val, by have := j.isLt; omega⟩ : Fin 2048) o : S4x2048x1024.Idx)
    = chunk (half fx 0 0 (by decide)) (weff (logits (arg0.view.read (Elt F) f0) (arg1.view.read (Elt F) f1) 0) (arg5.view.read (Elt F) f5) (arg6.view.read (Elt F) f6) (arg3.view.read (Elt F) f3)) (arg4.view.read (Elt F) f4) (ix3 (0 : Fin 1) j o : S1x1024x1024.Idx) := by
  refine (stored_eq 0 0 0 512 (by decide) (by decide) (by decide) rfl ?inb _ ?f ?P ?L ?e0 ?e1 j o).trans (congrFun ?hP _)
  case e0 =>
    unfold bodyRun
    repeat refine (read_write_win_ne oM (by decide) _ _ _ _ _ _ _ _).trans ?_
    refine (View.read_write_univ _ _).trans ?_
    unfold bodyRun.sl.dma33 bodyRun.sl.Hob_1
    rfl
  case e1 =>
    unfold bodyRun
    repeat refine (read_write_win_ne oM (by decide) _ _ _ _ _ _ _ _).trans ?_
    refine (View.read_write_univ _ _).trans ?_
    unfold bodyRun.sl.dma33_1 bodyRun.sl.Hob_1
    rfl
  case hP =>
    rw [← x00 c fx fxb, ← wf0 c arg0 arg1 arg3 arg5 arg6 f0 f1 f3 f5 f6 h1, ← View.readAt_full arg4.view f4 inb_S1x1024_S1x1024_0_0]
    rfl
theorem o01 (j o : Fin 1024) : ((bodyRun c arg0 harg0 arg1 harg1 arg3 harg3 arg4 harg4 arg5 harg5 arg6 harg6 f0 f1 f3 f4 f5 f6 fx fo fxb fob fwf h1 h2 h3 h4).1 : Vec F S4x2048x1024 .f32) (ix3 (0 : Fin 4) (⟨1024 + j.val, by have := j.isLt; omega⟩ : Fin 2048) o : S4x2048x1024.Idx)
    = chunk (half fx 0 1024 (by decide)) (weff (logits (arg0.view.read (Elt F) f0) (arg1.view.read (Elt F) f1) 0) (arg5.view.read (Elt F) f5) (arg6.view.read (Elt F) f6) (arg3.view.read (Elt F) f3)) (arg4.view.read (Elt F) f4) (ix3 (0 : Fin 1) j o : S1x1024x1024.Idx) := by
  refine (stored_eq 0 0 1024 1536 (by decide) (by decide) (by decide) rfl ?inb _ ?f ?P ?L ?e0 ?e1 j o).trans (congrFun ?hP _)
  case e0 =>
    unfold bodyRun
    repeat refine (read_write_win_ne oM (by decide) _ _ _ _ _ _ _ _).trans ?_
    refine (View.read_write_univ _ _).trans ?_
    unfold bodyRun.sl.dma38 bodyRun.sl.Hob_2
    rfl
  case e1 =>
    unfold bodyRun
    repeat refine (read_write_win_ne oM (by decide) _ _ _ _ _ _ _ _).trans ?_
    refine (View.read_write_univ _ _).trans ?_
    unfold bodyRun.sl.dma38_1 bodyRun.sl.Hob_2
    rfl
  case hP =>
    rw [← x01 c fx fxb, ← wf0 c arg0 arg1 arg3 arg5 arg6 f0 f1 f3 f5 f6 h1, ← View.readAt_full arg4.view f4 inb_S1x1024_S1x1024_0_0]
    rfl
theorem o10 (j o : Fin 1024) : ((bodyRun c arg0 harg0 arg1 harg1 arg3 harg3 arg4 harg4 arg5 harg5 arg6 harg6 f0 f1 f3 f4 f5 f6 fx fo fxb fob fwf h1 h2 h3 h4).1 : Vec F S4x2048x1024 .f32) (ix3 (1 : Fin 4) (⟨0 + j.val, by have := j.isLt; omega⟩ : Fin 2048) o : S4x2048x1024.Idx)
    = chunk (half fx 1 0 (by decide)) (weff (logits (arg0.view.read (Elt F) f0) (arg1.view.read (Elt F) f1) 1) (arg5.view.read (Elt F) f5) (arg6.view.read (Elt F) f6) (arg3.view.read (Elt F) f3)) (arg4.view.read (Elt F) f4) (ix3 (0 : Fin 1) j o : S1x1024x1024.Idx) := by
  refine (stored_eq 1 1 0 512 (by decide) (by decide) (by decide) rfl ?inb _ ?f ?P ?L ?e0 ?e1 j o).trans (congrFun ?hP _)
  case e0 =>
    unfold bodyRun
    repeat refine (read_write_win_ne oM (by decide) _ _ _ _ _ _ _ _).trans ?_
    refine (View.read_write_univ _ _).trans ?_
    unfold bodyRun.sl.dma71 bodyRun.sl.Hob_3
    rfl
  case e1 =>
    unfold bodyRun
    repeat refine (read_write_win_ne oM (by decide) _ _ _ _ _ _ _ _).trans ?_
    refine (View.read_write_univ _ _).trans ?_
    unfold bodyRun.sl.dma71_1 bodyRun.sl.Hob_3
    rfl
  case hP =>
    rw [← x10 c fx fxb, ← wf1 c arg0 arg1 arg3 arg5 arg6 f0 f1 f3 f5 f6 h1 h2, ← View.readAt_full arg4.view f4 inb_S1x1024_S1x1024_0_0]
    rfl
theorem o11 (j o : Fin 1024) : ((bodyRun c arg0 harg0 arg1 harg1 arg3 harg3 arg4 harg4 arg5 harg5 arg6 harg6 f0 f1 f3 f4 f5 f6 fx fo fxb fob fwf h1 h2 h3 h4).1 : Vec F S4x2048x1024 .f32) (ix3 (1 : Fin 4) (⟨1024 + j.val, by have := j.isLt; omega⟩ : Fin 2048) o : S4x2048x1024.Idx)
    = chunk (half fx 1 1024 (by decide)) (weff (logits (arg0.view.read (Elt F) f0) (arg1.view.read (Elt F) f1) 1) (arg5.view.read (Elt F) f5) (arg6.view.read (Elt F) f6) (arg3.view.read (Elt F) f3)) (arg4.view.read (Elt F) f4) (ix3 (0 : Fin 1) j o : S1x1024x1024.Idx) := by
  refine (stored_eq 1 1 1024 1536 (by decide) (by decide) (by decide) rfl ?inb _ ?f ?P ?L ?e0 ?e1 j o).trans (congrFun ?hP _)
  case e0 =>
    unfold bodyRun
    repeat refine (read_write_win_ne oM (by decide) _ _ _ _ _ _ _ _).trans ?_
    refine (View.read_write_univ _ _).trans ?_
    unfold bodyRun.sl.dma76 bodyRun.sl.Hob_4
    rfl
  case e1 =>
    unfold bodyRun
    repeat refine (read_write_win_ne oM (by decide) _ _ _ _ _ _ _ _).trans ?_
    refine (View.read_write_univ _ _).trans ?_
    unfold bodyRun.sl.dma76_1 bodyRun.sl.Hob_4
    rfl
  case hP =>
    rw [← x11 c fx fxb, ← wf1 c arg0 arg1 arg3 arg5 arg6 f0 f1 f3 f5 f6 h1 h2, ← View.readAt_full arg4.view f4 inb_S1x1024_S1x1024_0_0]
    rfl
theorem o20 (j o : Fin 1024) : ((bodyRun c arg0 harg0 arg1 harg1 arg3 harg3 arg4 harg4 arg5 harg5 arg6 harg6 f0 f1 f3 f4 f5 f6 fx fo fxb fob fwf h1 h2 h3 h4).1 : Vec F S4x2048x1024 .f32) (ix3 (2 : Fin 4) (⟨0 + j.val, by have := j.isLt; omega⟩ : Fin 2048) o : S4x2048x1024.Idx)
    = chunk (half fx 2 0 (by decide)) (weff (logits (arg0.view.read (Elt F) f0) (arg1.view.read (Elt F) f1) 2) (arg5.view.read (Elt F) f5) (arg6.view.read (Elt F) f6) (arg3.view.read (Elt F) f3)) (arg4.view.read (Elt F) f4) (ix3 (0 : Fin 1) j o : S1x1024x1024.Idx) := by
  refine (stored_eq 2 0 0 512 (by decide) (by decide) (by decide) rfl ?inb _ ?f ?P ?L ?e0 ?e1 j o).trans (congrFun ?hP _)
  case e0 =>
    unfold bodyRun
    repeat refine (read_write_win_ne oM (by decide) _ _ _ _ _ _ _ _).trans ?_
    refine (View.read_write_univ _ _).trans ?_
    unfold bodyRun.sl.dma109 bodyRun.sl.Hob_5
    rfl
  case e1 =>
    unfold bodyRun
    repeat refine (read_write_win_ne oM (by decide) _ _ _ _ _ _ _ _).trans ?_
    refine (View.read_write_univ _ _).trans ?_
    unfold bodyRun.sl.dma109_1 bodyRun.sl.Hob_5
    rfl
  case hP =>
    rw [← x20 c fx fxb, ← wf2 c arg0 arg1 arg3 arg5 arg6 f0 f1 f3 f5 f6 h1 h2 h3, ← View.readAt_full arg4.view f4 inb_S1x1024_S1x1024_0_0]
    rfl
theorem o21 (j o : Fin 1024) : ((bodyRun c arg0 harg0 arg1 harg1 arg3 harg3 arg4 harg4 arg5 harg5 arg6 harg6 f0 f1 f3 f4 f5 f6 fx fo fxb fob fwf h1 h2 h3 h4).1 : Vec F S4x2048x1024 .f32) (ix3 (2 : Fin 4) (⟨1024 + j.val, by have := j.isLt; omega⟩ : Fin 2048) o : S4x2048x1024.Idx)
    = chunk (half fx 2 1024 (by decide)) (weff (logits (arg0.view.read (Elt F) f0) (arg1.view.read (Elt F) f1) 2) (arg5.view.read (Elt F) f5) (arg6.view.read (Elt F) f6) (arg3.view.read (Elt F) f3)) (arg4.view.read (Elt F) f4) (ix3 (0 : Fin 1) j o : S1x1024x1024.Idx) := by
  refine (stored_eq 2 0 1024 1536 (by decide) (by decide) (by decide) rfl ?inb _ ?f ?P ?L ?e0 ?e1 j o).trans (congrFun ?hP _)
  case e0 =>
    unfold bodyRun
    repeat refine (read_write_win_ne oM (by decide) _ _ _ _ _ _ _ _).trans ?_
    refine (View.read_write_univ _ _).trans ?_
    unfold bodyRun.sl.dma114 bodyRun.sl.Hob_6
    rfl
  case e1 =>
    unfold bodyRun
    repeat refine (read_write_win_ne oM (by decide) _ _ _ _ _ _ _ _).trans ?_
    refine (View.read_write_univ _ _).trans ?_
    unfold bodyRun.sl.dma114_1 bodyRun.sl.Hob_6
    rfl
  case hP =>
    rw [← x21 c fx fxb, ← wf2 c arg0 arg1 arg3 arg5 arg6 f0 f1 f3 f5 f6 h1 h2 h3, ← View.readAt_full arg4.view f4 inb_S1x1024_S1x1024_0_0]
    rfl
theorem o30 (j o : Fin 1024) : ((bodyRun c arg0 harg0 arg1 harg1 arg3 harg3 arg4 harg4 arg5 harg5 arg6 harg6 f0 f1 f3 f4 f5 f6 fx fo fxb fob fwf h1 h2 h3 h4).1 : Vec F S4x2048x1024 .f32) (ix3 (3 : Fin 4) (⟨0 + j.val, by have := j.isLt; omega⟩ : Fin 2048) o : S4x2048x1024.Idx)
    = chunk (half fx 3 0 (by decide)) (weff (logits (arg0.view.read (Elt F) f0) (arg1.view.read (Elt F) f1) 3) (arg5.view.read (Elt F) f5) (arg6.view.read (Elt F) f6) (arg3.view.read (Elt F) f3)) (arg4.view.read (Elt F) f4) (ix3 (0 : Fin 1) j o : S1x1024x1024.Idx) := by
  refine (stored_eq 3 1 0 512 (by decide) (by decide) (by decide) rfl ?inb _ ?f ?P ?L ?e0 ?e1 j o).trans (congrFun ?hP _)
  case e0 =>
    unfold bodyRun
    repeat refine (read_write_win_ne oM (by decide) _ _ _ _ _ _ _ _).trans ?_
    refine (View.read_write_univ _ _).trans ?_
    unfold bodyRun.sl.dma147 bodyRun.sl.Hob_7
    rfl
  case e1 =>
    unfold bodyRun
    repeat refine (read_write_win_ne oM (by decide) _ _ _ _ _ _ _ _).trans ?_
    refine (View.read_write_univ _ _).trans ?_
    unfold bodyRun.sl.dma147_1 bodyRun.sl.Hob_7
    rfl
  case hP =>
    rw [← x30 c fx fxb, ← wf3 c arg0 arg1 arg3 arg5 arg6 f0 f1 f3 f5 f6 h1 h2 h3 h4, ← View.readAt_full arg4.view f4 inb_S1x1024_S1x1024_0_0]
    rfl
theorem o31 (j o : Fin 1024) : ((bodyRun c arg0 harg0 arg1 harg1 arg3 harg3 arg4 harg4 arg5 harg5 arg6 harg6 f0 f1 f3 f4 f5 f6 fx fo fxb fob fwf h1 h2 h3 h4).1 : Vec F S4x2048x1024 .f32) (ix3 (3 : Fin 4) (⟨1024 + j.val, by have := j.isLt; omega⟩ : Fin 2048) o : S4x2048x1024.Idx)
    = chunk (half fx 3 1024 (by decide)) (weff (logits (arg0.view.read (Elt F) f0) (arg1.view.read (Elt F) f1) 3) (arg5.view.read (Elt F) f5) (arg6.view.read (Elt F) f6) (arg3.view.read (Elt F) f3)) (arg4.view.read (Elt F) f4) (ix3 (0 : Fin 1) j o : S1x1024x1024.Idx) := by
  refine (stored_eq 3 1 1024 1536 (by decide) (by decide) (by decide) rfl ?inb _ ?f ?P ?L ?e0 ?e1 j o).trans (congrFun ?hP _)
  case e0 =>
    unfold bodyRun
    repeat refine (read_write_win_ne oM (by decide) _ _ _ _ _ _ _ _).trans ?_
    refine (View.read_write_univ _ _).trans ?_
    unfold bodyRun.sl.dma152 bodyRun.sl.Hob_8
    rfl
  case e1 =>
    unfold bodyRun
    repeat refine (read_write_win_ne oM (by decide) _ _ _ _ _ _ _ _).trans ?_
    refine (View.read_write_univ _ _).trans ?_
    unfold bodyRun.sl.dma152_1 bodyRun.sl.Hob_8
    rfl
  case hP =>
    rw [← x31 c fx fxb, ← wf3 c arg0 arg1 arg3 arg5 arg6 f0 f1 f3 f5 f6 h1 h2 h3 h4, ← View.readAt_full arg4.view f4 inb_S1x1024_S1x1024_0_0]
    rfl

/-- What the run leaves in the result array. -/
theorem bodyRun_eq : ((bodyRun c arg0 harg0 arg1 harg1 arg3 harg3 arg4 harg4 arg5 harg5 arg6 harg6 f0 f1 f3 f4 f5 f6 fx fo fxb fob fwf h1 h2 h3 h4).1 : Vec F S4x2048x1024 .f32)
    = result (arg0.view.read (Elt F) f0) (arg1.view.read (Elt F) f1) fx (arg3.view.read (Elt F) f3) (arg4.view.read (Elt F) f4) (arg5.view.read (Elt F) f5) (arg6.view.read (Elt F) f6) :=
  eq_result _ _ _ _ _ _ _ _
    (fun b j o => match b with
      | 0 => o00 c arg0 harg0 arg1 harg1 arg3 harg3 arg4 harg4 arg5 harg5 arg6 harg6 f0 f1 f3 f4 f5 f6 fx fo fxb fob fwf h1 h2 h3 h4 j o | 1 => o10 c arg0 harg0 arg1 harg1 arg3 harg3 arg4 harg4 arg5 harg5 arg6 harg6 f0 f1 f3 f4 f5 f6 fx fo fxb fob fwf h1 h2 h3 h4 j o | 2 => o20 c arg0 harg0 arg1 harg1 arg3 harg3 arg4 harg4 arg5 harg5 arg6 harg6 f0 f1 f3 f4 f5 f6 fx fo fxb fob fwf h1 h2 h3 h4 j o | 3 => o30 c arg0 harg0 arg1 harg1 arg3 harg3 arg4 harg4 arg5 harg5 arg6 harg6 f0 f1 f3 f4 f5 f6 fx fo fxb fob fwf h1 h2 h3 h4 j o)
    (fun b j o => match b with
      | 0 => o01 c arg0 harg0 arg1 harg1 arg3 harg3 arg4 harg4 arg5 harg5 arg6 harg6 f0 f1 f3 f4 f5 f6 fx fo fxb fob fwf h1 h2 h3 h4 j o | 1 => o11 c arg0 harg0 arg1 harg1 arg3 harg3 arg4 harg4 arg5 harg5 arg6 harg6 f0 f1 f3 f4 f5 f6 fx fo fxb fob fwf h1 h2 h3 h4 j o | 2 => o21 c arg0 harg0 arg1 harg1 arg3 harg3 arg4 harg4 arg5 harg5 arg6 harg6 f0 f1 f3 f4 f5 f6 fx fo fxb fob fwf h1 h2 h3 h4 j o | 3 => o31 c arg0 harg0 arg1 harg1 arg3 harg3 arg4 harg4 arg5 harg5 arg6 harg6 f0 f1 f3 f4 f5 f6 fx fo fxb fob fwf h1 h2 h3 h4 j o)

end Cert.KernelIdeal.Hand

end
-- ==== Proof.KernelAt.lean ====
/-
  What the kernel leaves, entry by entry, on the extended reals: an entry of the result is the dot product of a token with a
  row of the effective weight, plus the bias; an entry of the effective weight is the frozen entry plus a sixteenth of the
  product of the two mixed factors; a mixed factor is the sum of the eight weighted factors.
-/
module

public import proofs.«01_k».proof.Proof.Stored

@[expose] public section

set_option maxRecDepth 16384

noncomputable section

namespace Cert.KernelIdeal.Hand

open Idealize.ShloMosaic Idealize.ShloMosaic.TcCoe Idealize.SL.Sem
open Cert.KernelIdeal Cert.KernelIdeal.Gen

/-- The kernel's logistic, spelt by its four scalar operations, is the logistic. -/
theorem sigm_ideal (t : EReal) : sigm (F := Ideal) t = Ideal.logistic t := by
  show Ideal.div (Ideal.ofBits .f32 0x3F800000#32) (Ideal.ofBits .f32 0x3F800000#32 + Ideal.exp (Ideal.ofBits .f32 0x00000000#32 - t)) = _
  rw [Ideal.ofBits_one_f32, Ideal.ofBits_zero_f32, zero_sub]
  rfl

/-- A mixing weight: a logistic times the reciprocal of the guarded sum of all eight. -/
theorem mixWt_ideal (t : Fin 8 → EReal) (k : Fin 8) : mixWt (F := Ideal) t k
    = Ideal.logistic (t k) * Ideal.div 1 ((∑ l, Ideal.logistic (t l)) + Ideal.ofBits .f32 0x2B8CBCCC#32) := by
  rw [Fin.sum_univ_eight]
  simp only [← sigm_ideal]
  rw [← Ideal.ofBits_one_f32]
  rfl

/-- A matrix under one leading unit axis, that axis dropped. -/
theorem drop_at {n m : ℕ} (v : (⟨3, ![1, n, m]⟩ : Shape).Idx → EReal) (h : (⟨3, ![1, n, m]⟩ : Shape).ShapeCasts ⟨2, ![n, m]⟩) (i : Fin n) (r : Fin m) :
    shapeCast (⟨2, ![n, m]⟩ : Shape) v h (ix2 i r) = v (ix3 (0 : Fin 1) i r) :=
  (shapeCast_dropUnit_apply _ v h (ix2 i r)).trans (congrArg v (funext fun a => Fin.ext (by
    match a with
    | ⟨0, _⟩ => rfl
    | ⟨1, _⟩ => rfl
    | ⟨2, _⟩ => rfl)))

/-- An entry of skill `k`'s first factor. -/
theorem facA_at (la : Vec Ideal S8x1024x16 .f32) (k : Fin 8) (i : Fin 1024) (r : Fin 16) :
    facA la k (ix2 i r) = la (ix3 k i r) := by
  refine (drop_at _ _ i r).trans (congrArg la (funext fun a => Fin.ext ?_))
  match a with
  | ⟨0, _⟩ => rfl
  | ⟨1, _⟩ => exact (Nat.zero_add _).trans (Nat.one_mul _)
  | ⟨2, _⟩ => exact (Nat.zero_add _).trans (Nat.one_mul _)

/-- An entry of skill `k`'s second factor. -/
theorem facB_at (lb : Vec Ideal S8x16x1024 .f32) (k : Fin 8) (r : Fin 16) (o : Fin 1024) :
    facB lb k (ix2 r o) = lb (ix3 k r o) := by
  refine (drop_at _ _ r o).trans (congrArg lb (funext fun a => Fin.ext ?_))
  match a with
  | ⟨0, _⟩ => rfl
  | ⟨1, _⟩ => exact (Nat.zero_add _).trans (Nat.one_mul _)
  | ⟨2, _⟩ => exact (Nat.zero_add _).trans (Nat.one_mul _)

/-- An entry of a mix is the sum of the eight weighted entries. -/
theorem mix_at {s : Shape} (p : Fin 8 → FVec Ideal s .f32) (w : Fin 8 → EReal) (j : s.Idx) :
    mix p w j = ∑ k : Fin 8, p k j * w k := by
  rw [Fin.sum_univ_eight]; rfl

/-- An entry of the effective weight. -/
theorem weff_at (t : Fin 8 → EReal) (la : Vec Ideal S8x1024x16 .f32) (lb : Vec Ideal S8x16x1024 .f32) (w : Vec Ideal S1024x1024 .f32)
    (o i : Fin 1024) : weff t la lb w (ix2 o i)
      = w (ix2 o i) + (∑ r : Fin 16, (∑ k : Fin 8, lb (ix3 k r o) * mixWt (F := Ideal) t k) * ∑ k : Fin 8, la (ix3 k i r) * mixWt (F := Ideal) t k)
        * Ideal.ofBits .f32 0x3D800000#32 := by
  pointwise [weff, mix_at, facA_at, facB_at]

/-- An entry of a chunk. -/
theorem chunk_entry (x : Vec Ideal S1x1024x1024 .f32) (wf : Vec Ideal S1024x1024 .f32) (bias : Vec Ideal S1x1024 .f32) (r o : Fin 1024) :
    chunk x wf bias (ix3 (0 : Fin 1) r o) = ∑ i : Fin 1024, x (ix3 (0 : Fin 1) r i) * wf (ix2 o i) + bias (ix2 (0 : Fin 1) o) := by
  pointwise [chunk]

/-- A row of a chunk's tokens is the row of the array it came from. -/
theorem half_at (x : Vec Ideal S4x2048x1024 .f32) (b : Fin 4) (t : Fin 2048) (i : Fin 1024) (h) :
    half x b (t.val / 1024 * 1024) h (ix3 (0 : Fin 1) (⟨t.val % 1024, Nat.mod_lt _ (by decide)⟩ : Fin 1024) i : S1x1024x1024.Idx)
      = x (ix3 b t i : S4x2048x1024.Idx) := by
  refine congrArg x (funext fun a => Fin.ext ?_)
  match a with
  | ⟨0, _⟩ => rfl
  | ⟨1, _⟩ => show t.val / 1024 * 1024 + t.val % 1024 = t.val; omega
  | ⟨2, _⟩ => rfl

/-- An entry of the result. -/
theorem result_at (ids : Vec Ideal S4 .i32) (tab : Vec Ideal S16x8 .f32) (x : Vec Ideal S4x2048x1024 .f32) (w : Vec Ideal S1024x1024 .f32)
    (bias : Vec Ideal S1x1024 .f32) (la : Vec Ideal S8x1024x16 .f32) (lb : Vec Ideal S8x16x1024 .f32) (b : Fin 4) (t : Fin 2048) (o : Fin 1024) :
    result ids tab x w bias la lb (ix3 b t o : S4x2048x1024.Idx)
      = ∑ i : Fin 1024, (x (ix3 b t i) : EReal) * (w (ix2 o i)
          + (∑ r : Fin 16, (∑ k : Fin 8, lb (ix3 k r o) * mixWt (F := Ideal) (logits ids tab b) k)
              * ∑ k : Fin 8, la (ix3 k i r) * mixWt (F := Ideal) (logits ids tab b) k) * Ideal.ofBits .f32 0x3D800000#32)
        + bias (ix2 (0 : Fin 1) o) := by
  refine (chunk_entry _ _ _ _ _).trans ?_
  refine Ideal.add_congr (Finset.sum_congr rfl fun i _ => ?_) rfl
  exact Ideal.mul_congr (half_at x b t i _) (weff_at _ _ _ _ _ _)

end Cert.KernelIdeal.Hand

end
-- ==== Proof.Reference.lean ====
/-
  What the reference leaves, entry by entry, on the extended reals. Its composed term is cut into the steps of the problem: the
  logits taken from the table by task id, the logistic of each, their guarded normalisation, the two mixed factors, and the sum
  of the dense product, the bias and a sixteenth of the low-rank product.
-/
module

public import proofs.«01_k».proof.Proof.Gen.ReferenceIdeal.Run
public import Idealize.ShloMosaic.Lib.Pointwise
public import Idealize.ShloMosaic.Lib.Routing.Ops
public import Idealize.ShloMosaic.Lib.ReduceAll

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-! ## The steps -/

/-- The task ids with the negative ones counted from the end of the table. -/
def wrapped (ids : IVec S4 32) : IVec S4 32 :=
  select (cmpi .slt ids (broadcastInDim S4 ![] bcast_S_S4 (constantI S_ 32 0#32)))
    (addi ids (broadcastInDim S4 ![] bcast_S_S4 (constantI S_ 32 16#32))) ids

/-- The ids as a column of start indices. -/
def starts (ids : IVec S4 32) : IVec S4x1 32 := broadcastInDim S4x1 ![0] bcast_S4_S4x1_0 (wrapped ids)

/-- Which examples' ids name a row of the table. -/
def named (ids : IVec S4 32) : IVec S4 1 :=
  Host.reduce IntOp.andi (andi (cmpi .sge (starts ids) (broadcastInDim S4x1 ![] bcast_S_S4x1 (constantI S_ 32 0#32)))
    (cmpi .sle (starts ids) (broadcastInDim S4x1 ![0, 1] bcast_S1x1_S4x1_0_1 (broadcastInDim S1x1 ![1] bcast_S1_S1x1_1 (constantI S1 32 15#32)))))
    (constantI S_ 1 1#1) reducesTo_S4x1_S4_d1 h_S_

/-- The logits of each example: its row of the table, or the fill where its id names none. -/
def taken (ids : IVec S4 32) (tab : FVec Ideal S16x8 .f32) : FVec Ideal S4x8 .f32 :=
  select (broadcastInDim S4x8 ![0] bcast_S4_S4x8_0 (named ids)) (Host.gather gather_S16x8_S4x1_S4x8_1_0_n_n_0_1_18 tab (starts ids))
    (broadcastInDim S4x8 ![] bcast_S_S4x8 (constant S_ .f32 0x7FC00000#32))

/-- The logistic of each logit. -/
def probs (tk : FVec Ideal S4x8 .f32) : FVec Ideal S4x1x8 .f32 :=
  Host.divf (broadcastInDim S4x1x8 ![] bcast_S_S4x1x8 (constant S_ .f32 0x3F800000#32))
    (addf (broadcastInDim S4x1x8 ![] bcast_S_S4x1x8 (constant S_ .f32 0x3F800000#32)) (Host.exp (Host.negf (shapeCast _ tk shapeCasts_S4x8_S4x1x8))))

/-- Each over the guarded sum of its example's eight. -/
def weights (pr : FVec Ideal S4x1x8 .f32) : FVec Ideal S4x1x8 .f32 :=
  Host.divf pr (broadcastInDim S4x1x8 ![0, 1, 2] bcast_S4x1x1_S4x1x8_0_1_2 (addf
    (broadcastInDim S4x1x1 ![0, 1] bcast_S4x1_S4x1x1_0_1 (Host.reduceAdd pr (constant S_ .f32 0x00000000#32) reducesTo_S4x1x8_S4x1_d2 h_S_))
    (broadcastInDim S4x1x1 ![] bcast_S_S4x1x1 (constant S_ .f32 0x2B8CBCCC#32))))

/-- The first factor, mixed for each example. -/
def mixedA (la : FVec Ideal S1x8x1024x16 .f32) (mw : FVec Ideal S4x1x8 .f32) : FVec Ideal S4x1024x16 .f32 :=
  shapeCast _ (transpose S4x1x1024x16 [3, 0, 1, 2] (Host.dotGeneral dot_S1x8x1024x16_S4x1x8_S1x1024x16x4_1_2_23_0_0_1 none la mw)
    transposes_S1x1024x16x4_S4x1x1024x16_3_0_1_2) shapeCasts_S4x1x1024x16_S4x1024x16

/-- The second factor, mixed for each example. -/
def mixedB (lb : FVec Ideal S1x8x16x1024 .f32) (mw : FVec Ideal S4x1x8 .f32) : FVec Ideal S4x16x1024 .f32 :=
  shapeCast _ (transpose S4x16x1x1024 [0, 2, 1, 3] (transpose S4x1x16x1024 [3, 0, 1, 2]
    (Host.dotGeneral dot_S1x8x16x1024_S4x1x8_S1x16x1024x4_1_2_23_0_0_1 none lb mw) transposes_S1x16x1024x4_S4x1x16x1024_3_0_1_2)
    transposes_S4x1x16x1024_S4x16x1x1024_0_2_1_3) shapeCasts_S4x16x1x1024_S4x16x1024

/-- The dense product and the bias, plus a sixteenth of the low-rank product. -/
def out (x : FVec Ideal S4x2048x1024 .f32) (w : FVec Ideal S1024x1024 .f32) (bias : FVec Ideal S1024 .f32)
    (A : FVec Ideal S4x1024x16 .f32) (B : FVec Ideal S4x16x1024 .f32) : FVec Ideal S4x2048x1024 .f32 :=
  addf (addf (Host.dotGeneral dot_S4x2048x1024_S1024x1024_S4x2048x1024_2_1_01_0_n_n none x w)
      (broadcastInDim S4x2048x1024 ![0, 1, 2] bcast_S1x1x1024_S4x2048x1024_0_1_2 (broadcastInDim S1x1x1024 ![2] bcast_S1024_S1x1x1024_2 bias)))
    (Host.divf (Host.dotGeneral dot_S4x2048x16_S4x16x1024_S4x2048x1024_2_1_1_2_0_0 none
      (Host.dotGeneral dot_S4x2048x1024_S4x1024x16_S4x2048x16_2_1_1_2_0_0 none x A) B)
      (broadcastInDim S4x2048x1024 ![] bcast_S_S4x2048x1024 (constant S_ .f32 0x41800000#32)))

/-- The program's result is these steps in turn. -/
theorem res_eq (m : (ℓ : Loc nD τ sig) → Buf (Elt Ideal) ℓ) (c : Dev nD) :
    Value.res_main_v29 (F := Ideal) m c = out (m ((c.tc : Thread nD τ).loc main_arg0)) (m ((c.tc : Thread nD τ).loc main_arg3))
      (m ((c.tc : Thread nD τ).loc main_arg4))
      (mixedA (m ((c.tc : Thread nD τ).loc main_arg5)) (weights (probs (taken (m ((c.tc : Thread nD τ).loc main_arg1)) (m ((c.tc : Thread nD τ).loc main_arg2))))))
      (mixedB (m ((c.tc : Thread nD τ).loc main_arg6)) (weights (probs (taken (m ((c.tc : Thread nD τ).loc main_arg1)) (m ((c.tc : Thread nD τ).loc main_arg2)))))) := rfl

/-! ## Each step, at an entry -/

/-- An entry of the result from the two mixed factors. -/
theorem out_at (x : FVec Ideal S4x2048x1024 .f32) (w : FVec Ideal S1024x1024 .f32) (bias : FVec Ideal S1024 .f32)
    (A : FVec Ideal S4x1024x16 .f32) (B : FVec Ideal S4x16x1024 .f32) (b : Fin 4) (t : Fin 2048) (o : Fin 1024) :
    out x w bias A B (ix3 b t o) = ((∑ i : Fin 1024, x (ix3 b t i) * w (ix2 o i)) + bias (ix1 o))
      + Ideal.div (∑ r : Fin 16, (∑ i : Fin 1024, x (ix3 b t i) * A (ix3 b i r)) * B (ix3 b r o)) (Ideal.ofBits .f32 0x41800000#32) := by
  pointwise [out]

/-- An entry of the mixed first factor: the eight weighted entries' sum. -/
theorem mixedA_at (la : FVec Ideal S1x8x1024x16 .f32) (mw : FVec Ideal S4x1x8 .f32) (b : Fin 4) (i : Fin 1024) (r : Fin 16) :
    mixedA la mw (ix3 b i r) = ∑ k : Fin 8, la (ix4 (0 : Fin 1) k i r) * mw (ix3 b (0 : Fin 1) k) := by
  pointwise [mixedA]

/-- An entry of the mixed second factor. -/
theorem mixedB_at (lb : FVec Ideal S1x8x16x1024 .f32) (mw : FVec Ideal S4x1x8 .f32) (b : Fin 4) (r : Fin 16) (o : Fin 1024) :
    mixedB lb mw (ix3 b r o) = ∑ k : Fin 8, lb (ix4 (0 : Fin 1) k r o) * mw (ix3 b (0 : Fin 1) k) := by
  pointwise [mixedB]

/-- A mixing weight: a logistic over the guarded sum of all eight. -/
theorem weights_at (tk : FVec Ideal S4x8 .f32) (b : Fin 4) (k : Fin 8) :
    weights (probs tk) (ix3 b (0 : Fin 1) k) = Ideal.div (Ideal.logistic (tk (ix2 b k)))
      ((∑ l : Fin 8, Ideal.logistic (tk (ix2 b l))) + Ideal.ofBits .f32 0x2B8CBCCC#32) := by
  pointwise [weights, probs]
  rfl

/-! ## The logits taken by task id -/

/-- An id in range is not negative, so it is itself. -/
theorem wrapped_at (ids : IVec S4 32) (i : S4.Idx) (h : (ids i).toNat < 16) : wrapped ids i = ids i := by
  have e : IntOp.cmpi .slt (ids i) 0#32 ≠ 1#1 := fun e => by
    have e := IntOp.cmpi_slt.1 e
    have h0 : (0#32 : BitVec 32).toInt = 0 := by decide
    rw [h0, BitVec.toInt_eq_toNat_cond] at e
    split at e <;> omega
  exact if_neg e

/-- Every entry of the column of start indices is an id. -/
theorem starts_at (ids : IVec S4 32) (h : ∀ i, (ids i).toNat < 16) (j : S4x1.Idx) : ∃ i, starts ids j = ids i :=
  ⟨_, wrapped_at ids _ (h _)⟩

/-- Every id in range names a row. -/
theorem named_at (ids : IVec S4 32) (h : ∀ i, (ids i).toNat < 16) (j : S4.Idx) : named ids j = 1#1 := by
  refine Host.reduce_andi_one _ _ _ _ j rfl fun i => ?_
  obtain ⟨k, hk⟩ := starts_at ids h i
  have hk' := h k
  have h0 : (0#32 : BitVec 32).toInt = 0 := by decide
  have h15 : (15#32 : BitVec 32).toInt = 15 := by decide
  have e : (ids k).toInt = (ids k).toNat := by
    rw [BitVec.toInt_eq_toNat_cond]; split <;> omega
  refine IntOp.andi_eq_one.2 ⟨IntOp.cmpi_sge.2 ?_, IntOp.cmpi_sle.2 ?_⟩
  · show (0#32 : BitVec 32).toInt ≤ (starts ids i).toInt
    rw [hk, h0, e]; omega
  · show (starts ids i).toInt ≤ (15#32 : BitVec 32).toInt
    rw [hk, h15, e]; omega

/-- The logits of example `b`: the row of the table its id names. -/
theorem taken_at (ids : IVec S4 32) (tab : FVec Ideal S16x8 .f32) (h : ∀ i, (ids i).toNat < 16) (b : Fin 4) (k : Fin 8) :
    taken ids tab (ix2 b k) = tab (ix2 (⟨(ids (ix1 b)).toNat % 16, Nat.mod_lt _ (by decide)⟩ : Fin 16) k) := by
  refine (if_pos (named_at ids h _)).trans ?_
  refine Routing.gather_row _ rfl rfl rfl rfl rfl tab _ b k _ ?_ (by decide)
  have hb := h (ix1 b)
  have e : starts ids (ix2 b (0 : Fin 1)) = ids (ix1 b) := by
    have e' : starts ids (ix2 b (0 : Fin 1)) = wrapped ids (ix1 b) := by pointwise [starts]
    exact e'.trans (wrapped_at ids _ hb)
  refine e.trans ?_
  apply BitVec.eq_of_toNat_eq
  rw [BitVec.toNat_ofNat]
  show (ids (ix1 b)).toNat = (ids (ix1 b)).toNat % 16 % 2 ^ 32
  omega

end Cert.ReferenceIdeal.Hand

end
-- ==== Proof.Algebra.lean ====
/-
  The equation between the two ways to apply a low-rank update, on the extended reals. Folding the update into the weight and
  multiplying once is the dense product plus the update applied to the token, when the token and the factors are real; the
  weight and the bias may be infinite.
-/
module

public import Idealize.ShloMosaic.PureOps.Ideal.Laws

@[expose] public section

noncomputable section

namespace Cert.Algebra

open Idealize.ShloMosaic

/-- A value that is neither infinity is a real. -/
theorem real_of (x : EReal) (h : x ≠ ⊤ ∧ x ≠ ⊥) : ∃ r : ℝ, x = r := ⟨x.toReal, (EReal.coe_toReal h.1 h.2).symm⟩

/-- A logistic is a real that is not negative, whatever its argument. -/
theorem logistic_real (t : EReal) : ∃ r : ℝ, 0 ≤ r ∧ Ideal.logistic t = r := by
  induction t with
  | bot => exact ⟨0, le_refl _, by rw [Ideal.logistic_bot]; rfl⟩
  | top => exact ⟨1, zero_le_one, by rw [Ideal.logistic_top]; rfl⟩
  | coe r => exact ⟨_, by positivity, Ideal.logistic_coe r⟩

/-- A sum of reals is real. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- A real times a sum with a real is the sum of the products, the other term being anything. -/
theorem mul_add_real (x d : ℝ) (w : EReal) : (x : EReal) * (w + (d : EReal)) = x * w + ((x * d : ℝ) : EReal) := by
  induction w with
  | coe w => norm_cast; ring
  | bot =>
    rw [EReal.bot_add]
    rcases lt_trichotomy x 0 with h | rfl | h
    · rw [EReal.coe_mul_bot_of_neg h, EReal.top_add_coe]
    · simp
    · rw [EReal.coe_mul_bot_of_pos h, EReal.bot_add]
  | top =>
    rw [EReal.top_add_coe]
    rcases lt_trichotomy x 0 with h | rfl | h
    · rw [EReal.coe_mul_top_of_neg h, EReal.bot_add]
    · simp
    · rw [EReal.coe_mul_top_of_pos h, EReal.top_add_coe]

/-- The constant the kernel scales by is a sixteenth, and the one the reference divides by is sixteen. -/
theorem sixteenth : Ideal.ofBits .f32 0x3D800000#32 = ((1 / 16 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num

/-- The guard is a positive real. -/
theorem guard_pos : ∃ e : ℝ, 0 < e ∧ Ideal.ofBits .f32 0x2B8CBCCC#32 = e := by
  simp [Ideal.ofBits, Ideal.ieee, -EReal.coe_mul]

/-- The two spellings of a mixing weight are one real. -/
theorem weight_real (t : Fin 8 → EReal) (k : Fin 8) : ∃ r : ℝ,
    Ideal.logistic (t k) * Ideal.div 1 ((∑ l, Ideal.logistic (t l)) + Ideal.ofBits .f32 0x2B8CBCCC#32) = r
    ∧ Ideal.div (Ideal.logistic (t k)) ((∑ l, Ideal.logistic (t l)) + Ideal.ofBits .f32 0x2B8CBCCC#32) = r := by
  choose s hs0 hs using fun l => logistic_real (t l)
  obtain ⟨e, he, hE⟩ := guard_pos
  have hpos : 0 < (∑ l, s l) + e := add_pos_of_nonneg_of_pos (Finset.sum_nonneg fun l _ => hs0 l) he
  have hd : (∑ l, Ideal.logistic (t l)) + Ideal.ofBits .f32 0x2B8CBCCC#32 = (((∑ l, s l) + e : ℝ) : EReal) := by
    rw [hE, EReal.coe_add, ← coe_sum]
    exact congrArg (· + (e : EReal)) (Finset.sum_congr rfl fun l _ => hs l)
  refine ⟨s k * (1 / ((∑ l, s l) + e)), ?_, ?_⟩
  · rw [hd, Ideal.div_coe hpos.ne', hs k, one_mul, EReal.coe_mul]
  · rw [hd, Ideal.div_coe hpos.ne', hs k, EReal.coe_mul]

/-- A sum of eight products of reals is real. -/
theorem mixed_real (f wt : Fin 8 → EReal) (hf : ∀ k, f k ≠ ⊤ ∧ f k ≠ ⊥) (hw : ∀ k, ∃ r : ℝ, wt k = r) : ∃ r : ℝ, ∑ k, f k * wt k = r := by
  choose a ha using fun k => real_of (f k) (hf k)
  choose v hv using hw
  refine ⟨∑ k, a k * v k, ?_⟩
  rw [← coe_sum]
  exact Finset.sum_congr rfl fun k _ => by rw [ha, hv, EReal.coe_mul]

/-- THE EQUATION: the update folded into the weight, against the update applied to the token. -/
theorem folded (x : Fin 1024 → EReal) (w : Fin 1024 → EReal) (A : Fin 1024 → Fin 16 → EReal) (B : Fin 16 → EReal) (bias : EReal)
    (hx : ∀ i, ∃ r : ℝ, x i = r) (hA : ∀ i r, ∃ a : ℝ, A i r = a) (hB : ∀ r, ∃ b : ℝ, B r = b) :
    (∑ i, x i * (w i + (∑ r, B r * A i r) * Ideal.ofBits .f32 0x3D800000#32)) + bias
      = ((∑ i, x i * w i) + bias) + Ideal.div (∑ r, (∑ i, x i * A i r) * B r) (Ideal.ofBits .f32 0x41800000#32) := by
  choose x' hx using hx
  choose A' hA using hA
  choose B' hB using hB
  obtain rfl : x = fun i => (x' i : EReal) := funext hx
  obtain rfl : A = fun i r => (A' i r : EReal) := funext fun i => funext (hA i)
  obtain rfl : B = fun r => (B' r : EReal) := funext hB
  have hl : ∀ i, (x' i : EReal) * (w i + (∑ r, (B' r : EReal) * (A' i r : EReal)) * Ideal.ofBits .f32 0x3D800000#32)
      = (x' i : EReal) * w i + ((x' i * ((∑ r, B' r * A' i r) * (1 / 16)) : ℝ) : EReal) := fun i => by
    rw [← mul_add_real, sixteenth, EReal.coe_mul, ← coe_sum]
    simp only [EReal.coe_mul]
  have hr : Ideal.div (∑ r, (∑ i, (x' i : EReal) * (A' i r : EReal)) * (B' r : EReal)) (Ideal.ofBits .f32 0x41800000#32)
      = (((∑ r, (∑ i, x' i * A' i r) * B' r) * (1 / 16) : ℝ) : EReal) := by
    rw [sixteen, Ideal.div_coe (by norm_num), EReal.coe_mul, ← coe_sum]
    simp only [EReal.coe_mul, ← coe_sum]
  rw [hr, Finset.sum_congr rfl fun i _ => hl i, Finset.sum_add_distrib, coe_sum]
  have hreal : (∑ i, x' i * ((∑ r, B' r * A' i r) * (1 / 16))) = (∑ r, (∑ i, x' i * A' i r) * B' r) * (1 / 16) := by
    simp only [Finset.sum_mul, Finset.mul_sum]
    rw [Finset.sum_comm]
    exact Finset.sum_congr rfl fun r _ => Finset.sum_congr rfl fun i _ => by ring
  rw [hreal]
  exact add_right_comm _ _ _

end Cert.Algebra

end
-- ==== Proof.Value.lean ====
/-
  The value claim. The kernel's run leaves `result` of its seven arrays; the reference's leaves its own composed term; entry by
  entry the two are the two sides of the low-rank update's equation.
-/
module

public import proofs.«01_k».proof.Proof.Frames
public import proofs.«01_k».proof.Proof.KernelAt
public import proofs.«01_k».proof.Proof.Reference
public import proofs.«01_k».proof.Proof.Algebra

@[expose] public section

set_option maxRecDepth 16384

noncomputable section

/-! ## What the kernel's run leaves -/

namespace Cert.KernelIdeal.Hand

open Idealize.ShloMosaic Idealize.ShloMosaic.TcCoe Idealize.SL.Sem
open Cert.KernelIdeal Cert.KernelIdeal.Gen

/-- The result array on device `c`, from the arrays as the kernel finds them. -/
def left (m : (ℓ : Loc nD τ sig) → Buf (Elt Ideal) ℓ) (c : Dev nD) : Vec Ideal S4x2048x1024 .f32 :=
  result (V m c main_arg1 : Vec Ideal S4 .i32) (V m c main_arg2 : Vec Ideal S16x8 .f32) (V m c main_arg0 : Vec Ideal S4x2048x1024 .f32)
    (V m c main_arg3 : Vec Ideal S1024x1024 .f32) (V m c main_v0 : Vec Ideal S1x1024 .f32) (V m c main_v1 : Vec Ideal S8x1024x16 .f32)
    (V m c main_v2 : Vec Ideal S8x16x1024 .f32)

/-- The body's run establishes it. -/
theorem goodRun (m : (ℓ : Loc nD τ sig) → Buf (Elt Ideal) ℓ) : GoodRun m (fun c g => g = left m c) := by
  intro c t f0 f1 f3 f4 f5 f6 fo fxb fob fwf h1 h2 h3 h4 e0 e1 e3 e4 e5 e6
  refine (bodyRun_eq c _ _ _ _ _ _ _ _ _ _ _ _ f0 f1 f3 f4 f5 f6 _ fo fxb fob fwf h1 h2 h3 h4).trans ?_
  rw [e0, e1, e3, e4, e5, e6]
  rfl

/-- The bias as the kernel finds it: under a leading unit axis. -/
theorem bias_at (m : (ℓ : Loc nD τ sig) → Buf (Elt Ideal) ℓ) (c : Dev nD) (o : Fin 1024) :
    (V m c main_v0 : Vec Ideal S1x1024 .f32) (ix2 (0 : Fin 1) o) = (m ((c : Thread nD τ).loc main_arg4) : Vec Ideal S1024 .f32) (ix1 o) := by
  entry_read; pointwise

/-- The first factors as the kernel finds them: without their leading unit axis. -/
theorem la_at (m : (ℓ : Loc nD τ sig) → Buf (Elt Ideal) ℓ) (c : Dev nD) (k : Fin 8) (i : Fin 1024) (r : Fin 16) :
    (V m c main_v1 : Vec Ideal S8x1024x16 .f32) (ix3 k i r) = (m ((c : Thread nD τ).loc main_arg5) : Vec Ideal S1x8x1024x16 .f32) (ix4 (0 : Fin 1) k i r) := by
  entry_read; pointwise

/-- The second factors likewise. -/
theorem lb_at (m : (ℓ : Loc nD τ sig) → Buf (Elt Ideal) ℓ) (c : Dev nD) (k : Fin 8) (r : Fin 16) (o : Fin 1024) :
    (V m c main_v2 : Vec Ideal S8x16x1024 .f32) (ix3 k r o) = (m ((c : Thread nD τ).loc main_arg6) : Vec Ideal S1x8x16x1024 .f32) (ix4 (0 : Fin 1) k r o) := by
  entry_read; pointwise

end Cert.KernelIdeal.Hand

/-! ## The two results are equal -/

namespace Cert.Value

open Idealize.ShloMosaic Idealize.ShloMosaic.TcCoe Idealize.SL.Sem
open Cert.KernelIdeal.Hand (logits mixWt mixWt_ideal result result_at)
open Cert.ReferenceIdeal.Hand (out out_at mixedA mixedA_at mixedB mixedB_at weights probs weights_at taken taken_at)

/-- The kernel's mixing weight and the reference's are one real. -/
theorem weight_eq (ids : IVec Cert.KernelIdeal.S4 32) (tab : FVec Ideal Cert.KernelIdeal.S16x8 .f32) (h : ∀ i, (ids i).toNat < 16)
    (b : Fin 4) (k : Fin 8) : ∃ r : ℝ, mixWt (F := Ideal) (logits ids tab b) k = r
      ∧ weights (probs (taken ids tab)) (ix3 b (0 : Fin 1) k) = r := by
  obtain ⟨r, h1, h2⟩ := Cert.Algebra.weight_real (logits (F := Ideal) ids tab b) k
  refine ⟨r, (mixWt_ideal _ k).trans h1, (weights_at _ b k).trans ?_⟩
  have e : ∀ l, taken ids tab (ix2 b l) = logits (F := Ideal) ids tab b l := fun l => taken_at ids tab h b l
  simp only [e]
  exact h2

/-- The kernel's entry is the reference's: the tokens and the factors finite, the ids in range. -/
theorem entry_eq (ids : IVec Cert.KernelIdeal.S4 32) (tab : FVec Ideal Cert.KernelIdeal.S16x8 .f32)
    (x : FVec Ideal Cert.KernelIdeal.S4x2048x1024 .f32) (w : FVec Ideal Cert.KernelIdeal.S1024x1024 .f32)
    (bias : FVec Ideal Cert.KernelIdeal.S1024 .f32) (bias' : FVec Ideal Cert.KernelIdeal.S1x1024 .f32)
    (la : FVec Ideal Cert.KernelIdeal.S1x8x1024x16 .f32) (la' : FVec Ideal Cert.KernelIdeal.S8x1024x16 .f32)
    (lb : FVec Ideal Cert.KernelIdeal.S1x8x16x1024 .f32) (lb' : FVec Ideal Cert.KernelIdeal.S8x16x1024 .f32)
    (hb : ∀ o : Fin 1024, bias' (ix2 (0 : Fin 1) o) = bias (ix1 o))
    (hla : ∀ (k : Fin 8) (i : Fin 1024) (r : Fin 16), la' (ix3 k i r) = la (ix4 (0 : Fin 1) k i r))
    (hlb : ∀ (k : Fin 8) (r : Fin 16) (o : Fin 1024), lb' (ix3 k r o) = lb (ix4 (0 : Fin 1) k r o))
    (hi : ∀ i, (ids i).toNat < 16) (fx : ∀ i, (x i : EReal) ≠ ⊤ ∧ (x i : EReal) ≠ ⊥)
    (fa : ∀ i, (la i : EReal) ≠ ⊤ ∧ (la i : EReal) ≠ ⊥) (fb : ∀ i, (lb i : EReal) ≠ ⊤ ∧ (lb i : EReal) ≠ ⊥)
    (b : Fin 4) (t : Fin 2048) (o : Fin 1024) :
    (result (F := Ideal) ids tab x w bias' la' lb' (ix3 b t o) : Ideal .f32)
      = out x w bias (mixedA la (weights (probs (taken ids tab)))) (mixedB lb (weights (probs (taken ids tab)))) (ix3 b t o) := by
  choose v hk hv using weight_eq ids tab hi b
  refine (result_at ids tab x w bias' la' lb' b t o).trans (Eq.trans ?_ (out_at x w bias _ _ b t o).symm)
  simp only [hb, hla, hlb, hk, mixedA_at, mixedB_at, hv]
  exact Cert.Algebra.folded (fun i => x (ix3 b t i)) (fun i => w (ix2 o i)) (fun i r => ∑ k : Fin 8, la (ix4 (0 : Fin 1) k i r) * (v k : EReal))
    (fun r => ∑ k : Fin 8, lb (ix4 (0 : Fin 1) k r o) * (v k : EReal)) (bias (ix1 o))
    (fun i => Cert.Algebra.real_of _ (fx _))
    (fun i r => Cert.Algebra.mixed_real _ _ (fun k => fa _) (fun k => ⟨v k, rfl⟩))
    (fun r => Cert.Algebra.mixed_real _ _ (fun k => fb _) (fun k => ⟨v k, rfl⟩))

/-- The kernel's result array is the reference's, from arguments that agree. -/
theorem left_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal_finite_and_in_range m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v29 (F := Ideal) m' c = Cert.KernelIdeal.Hand.left m c := by
  obtain ⟨hi, fx, fa, fb⟩ := Cert.Pre.finite _ _ _ _ _ _ _ (hp c)
  rw [Cert.ReferenceIdeal.Hand.res_eq, h0, h1, h2, h3, h4, h5, h6]
  unfold Cert.KernelIdeal.Hand.left
  rw [Cert.KernelIdeal.Gen.V_main_arg0, Cert.KernelIdeal.Gen.V_main_arg1, Cert.KernelIdeal.Gen.V_main_arg2, Cert.KernelIdeal.Gen.V_main_arg3]
  funext z
  obtain ⟨b, t, o, rfl⟩ : ∃ (b : Fin 4) (t : Fin 2048) (o : Fin 1024), z = (ix3 b t o : Cert.KernelIdeal.S4x2048x1024.Idx) := ⟨z 0, z 1, z 2, eq_ix3 z⟩
  exact (entry_eq _ _ _ _ _ _ _ _ _ _ (Cert.KernelIdeal.Hand.bias_at m c) (Cert.KernelIdeal.Hand.la_at m c) (Cert.KernelIdeal.Hand.lb_at m c)
    hi fx fa fb b t o).symm

/-- THE CLAIM: from agreeing arguments both programs end with one result, their arguments unchanged. -/
theorem algebraic : Cert.algebraic_KernelIdeal_ReferenceIdeal_pre_finite_and_in_range := by
  intro m ρ m' ρ' hp hag
  refine ⟨fun c => Cert.KernelIdeal.Hand.left m c, ?_, ?_⟩
  · exact (θ_run Cert.KernelIdeal.defs _ _).mono (fun _ h => h.1)
      (Cert.KernelIdeal.Hand.run_named ρ (Cert.Frames.inRange_of_finite m hp) (Cert.KernelIdeal.Hand.goodRun m))
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hag c
    exact left_eq m m' c hp h0 h1 h2 h3 h4 h5 h6

end Cert.Value

end
-- ==== Proof.lean ====
/-
  The proof of the certificate's claims: the two frames of the kernel, the reference's frame, that nothing was rewritten between
  the kernel as printed and the kernel on the extended reals, and that the kernel's result is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre.idsFacts, Cert.Pre.finiteFacts,
    Cert.Frames.printed, Cert.Frames.ideal, Cert.Frames.ideal_finite, Cert.Frames.reference, Cert.Frames.reference_finite,
    trivial, Cert.Value.algebraic⟩

end Cert.Proof

end
